-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)) →
    ∃ (v0 : (c : Dev Cert.KernelFfnIdeal.nD) → Buf (Elt Ideal) ((c.tc : Thread Cert.KernelFfnIdeal.nD Cert.KernelFfnIdeal.τ).loc Cert.KernelFfnIdeal.main_v0)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v11) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v11) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v16) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v0)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v17) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelDown : Cert.KernelDown.Facts) (hKernelDownIdeal : Cert.KernelDownIdeal.Facts) (hReferenceDownIdeal : Cert.ReferenceDownIdeal.Facts) (hKernelGates : Cert.KernelGates.Facts) (hKernelGatesIdeal : Cert.KernelGatesIdeal.Facts) (hReferenceGatesIdeal : Cert.ReferenceGatesIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelPle : Cert.KernelPle.Facts) (hKernelPleIdeal : Cert.KernelPleIdeal.Facts) (hReferencePleIdeal : Cert.ReferencePleIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelDown_KernelDownIdeal
    ∧ algebraic_KernelDownIdeal_ReferenceDownIdeal (hKernelDownIdeal := hKernelDownIdeal) (hReferenceDownIdeal := hReferenceDownIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelPle_KernelPleIdeal
    ∧ algebraic_KernelPleIdeal_ReferencePleIdeal (hKernelPleIdeal := hKernelPleIdeal) (hReferencePleIdeal := hReferencePleIdeal)
-- ==== Pre_finite.lean ====
abbrev S8192x4096 : Shape := ⟨2, ![8192, 4096]⟩
abbrev S8192x2048 : Shape := ⟨2, ![8192, 2048]⟩
abbrev S8192x128 : Shape := ⟨2, ![8192, 128]⟩
abbrev S128 : Shape := ⟨1, ![128]⟩
abbrev S16x36 : Shape := ⟨2, ![16, 36]⟩
abbrev S_ : Shape := ⟨0, ![]⟩
abbrev S8192x16 : Shape := ⟨2, ![8192, 16]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S8192x128_S8192x16_0_0 : S8192x128.Slices ![0, 0] S8192x16
  bcast_S_S8192x16 : S_.BroadcastsInDim S8192x16 (![] : Fin 0 → Fin S8192x16.rank)
  reducesTo_S8192x16_S_d0_1 : S8192x16.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  main_v20

def fn {F : FTy → Type} [FloatOps F] (main_arg0 : FVec F S8192x4096 .bf16) (main_arg1 : FVec F S8192x2048 .bf16) (main_arg2 : FVec F S8192x128 .f32) (main_arg3 : FVec F S128 .f32) (main_arg4 : FVec F S128 .f32) (main_arg5 : IVec S16x36 32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x16 .f32 := (extractStridedSlice S8192x16 ![0, 0] · slices_S8192x128_S8192x16_0_0) main_arg2
  let main_v6 : FVec F S8192x16 .f32 := Host.absf main_v5
  let main_cst_0 : FVec F S_ .f32 := constant S_ .f32 0x7F800000#32
  let main_v7 : FVec F S8192x16 .f32 := broadcastInDim S8192x16 ![] bcast_S_S8192x16 main_cst_0
  let main_v8 : IVec S8192x16 1 := cmpf .olt main_v6 main_v7
  let main_c_1 : IVec S_ 1 := constantI S_ 1 1#1
  let main_v9 : IVec S_ 1 := (fun x v => Host.reduce IntOp.andi x v reducesTo_S8192x16_S_d0_1 h_S_) main_v8 main_c_1
  let main_v10 : IVec S_ 1 := andi main_v4 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  let main_v16 : FVec F S128 .f32 := Host.absf main_arg4
  let main_cst_4 : FVec F S_ .f32 := constant S_ .f32 0x7F800000#32
  fn_part1 (F := F) main_v15 main_v16 main_cst_4
-- ==== Kernel.lean ====
abbrev S8192x4096 : Shape := ⟨2, ![8192, 4096]⟩
abbrev S8192x2048 : Shape := ⟨2, ![8192, 2048]⟩
abbrev S8192x128 : Shape := ⟨2, ![8192, 128]⟩
abbrev S128 : Shape := ⟨1, ![128]⟩
abbrev S16x36 : Shape := ⟨2, ![16, 36]⟩
abbrev S36 : Shape := ⟨1, ![36]⟩
abbrev S8192x16 : Shape := ⟨2, ![8192, 16]⟩
abbrev S16x8192 : Shape := ⟨2, ![16, 8192]⟩
abbrev S_ : Shape := ⟨0, ![]⟩
abbrev S16x8192x1 : Shape := ⟨3, ![16, 8192, 1]⟩
abbrev S16x1x8192 : Shape := ⟨3, ![16, 1, 8192]⟩
abbrev S1024x512 : Shape := ⟨2, ![1024, 512]⟩
abbrev S1 : Shape := ⟨1, ![1]⟩
abbrev S4x1024x1 : Shape := ⟨3, ![4, 1024, 1]⟩
abbrev S4x1x1024 : Shape := ⟨3, ![4, 1, 1024]⟩
abbrev S4x1024x256 : Shape := ⟨3, ![4, 1024, 256]⟩
abbrev S256x1024 : Shape := ⟨2, ![256, 1024]⟩
abbrev S1024x128 : Shape := ⟨2, ![1024, 128]⟩
abbrev S1024x256 : Shape := ⟨2, ![1024, 256]⟩
abbrev S256x128 : Shape := ⟨2, ![256, 128]⟩
abbrev S256x256 : Shape := ⟨2, ![256, 256]⟩
abbrev S1x256x1 : Shape := ⟨3, ![1, 256, 1]⟩
abbrev S256x1 : Shape := ⟨2, ![256, 1]⟩
abbrev S1x1x256 : Shape := ⟨3, ![1, 1, 256]⟩
abbrev S1x256 : Shape := ⟨2, ![1, 256]⟩
abbrev S1x256x256 : Shape := ⟨3, ![1, 256, 256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512x256 : Shape := ⟨2, ![512, 256]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S768x256 : Shape := ⟨2, ![768, 256]⟩
abbrev S1x1x1024 : Shape := ⟨3, ![1, 1, 1024]⟩
abbrev S1x1024 : Shape := ⟨2, ![1, 1024]⟩
abbrev S1x1 : Shape := ⟨2, ![1, 1]⟩
abbrev S1x1024x128 : Shape := ⟨3, ![1, 1024, 128]⟩

abbrev nBuf : Space → Nat
  | .hbm => 27
  | .vmem => 13
  | .smem => 3
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x128, .f32⟩
  | .hbm, ⟨3, _⟩ => ⟨S128, .f32⟩
  | .hbm, ⟨4, _⟩ => ⟨S128, .f32⟩
  | .hbm, ⟨5, _⟩ => ⟨S8192x16, .f32⟩
  | .hbm, ⟨6, _⟩ => ⟨S16x8192, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x8192, .f32⟩
  | .hbm, ⟨23, _⟩ => ⟨S16x8192, .f32⟩
  | .hbm, ⟨24, _⟩ => ⟨S16x8192x1, .f32⟩
  | .hbm, ⟨25, _⟩ => ⟨S16x1x8192, .f32⟩
  | .hbm, ⟨26, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S4x1024x1, .f32⟩
  | .local _ .vmem, ⟨7, _⟩ => ⟨S4x1024x1, .f32⟩
  | .local _ .vmem, ⟨8, _⟩ => ⟨S4x1x1024, .f32⟩
  | .local _ .vmem, ⟨9, _⟩ => ⟨S4x1x1024, .f32⟩
  | .local _ .vmem, ⟨10, _⟩ => ⟨S1024x512, .bf16⟩
  | .local _ .vmem, ⟨11, _⟩ => ⟨S1024x512, .bf16⟩
  | .local _ .vmem, ⟨12, _⟩ => ⟨S4x1024x256, .f32⟩
  | .local _ .smem, ⟨0, _⟩ => ⟨S36, .i32⟩
  | .local _ .smem, ⟨1, _⟩ => ⟨S36, .i32⟩
  | .local _ .smem, ⟨2, _⟩ => ⟨S16x36, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.smem, 0, rfl⟩
abbrev main_c_0 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 36], ![false, false]⟩

abbrev pre0 : Pipeline.Prefetch sig := ⟨3, ![main_c.idx, main_c_0.idx, main_arg5.idx], fun | 0 => main_c.names | 1 => main_c_0.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 2 → Nat :=
  let arg0 : BitVec 32 := BitVec.ofNat 32 (i 0).val
  let c4_i32 : BitVec 32 := 4#32
  let v10 : BitVec 32 := Scalar.muli arg0 c4_i32
  let c0_i32_1 : BitVec 32 := 0#32
  let v11 : BitVec 32 := Scalar.addi v10 c0_i32_1
  let v12 : Index := Scalar.indexCast v11
  let arg1 : BitVec 32 := BitVec.ofNat 32 (i 1).val
  let v13 : Index := Scalar.indexCast arg1
  ![v12.toNat, v13.toNat]
def k0_off3 (i : grid0.Coords) : Fin 2 → Nat :=
  let arg0 : BitVec 32 := BitVec.ofNat 32 (i 0).val
  let c4_i32_4 : BitVec 32 := 4#32
  let v20 : BitVec 32 := Scalar.muli arg0 c4_i32_4
  let c1_i32 : BitVec 32 := 1#32
  let v21 : BitVec 32 := Scalar.addi v20 c1_i32
  let v22 : Index := Scalar.indexCast v21
  let arg1 : BitVec 32 := BitVec.ofNat 32 (i 1).val
  let v23 : Index := Scalar.indexCast arg1
  ![v22.toNat, v23.toNat]
def k0_off4 (i : grid0.Coords) : Fin 2 → Nat :=
  let arg0 : BitVec 32 := BitVec.ofNat 32 (i 0).val
  let c4_i32_7 : BitVec 32 := 4#32
  let v30 : BitVec 32 := Scalar.muli arg0 c4_i32_7
  let c2_i32 : BitVec 32 := 2#32
  let v31 : BitVec 32 := Scalar.addi v30 c2_i32
  let v32 : Index := Scalar.indexCast v31
  let arg1 : BitVec 32 := BitVec.ofNat 32 (i 1).val
  let v33 : Index := Scalar.indexCast arg1
  ![v32.toNat, v33.toNat]
def k0_off5 (i : grid0.Coords) : Fin 2 → Nat :=
  let arg0 : BitVec 32 := BitVec.ofNat 32 (i 0).val
  let c4_i32_10 : BitVec 32 := 4#32
  let v40 : BitVec 32 := Scalar.muli arg0 c4_i32_10
  let c3_i32 : BitVec 32 := 3#32
  let v41 : BitVec 32 := Scalar.addi v40 c3_i32
  let v42 : Index := Scalar.indexCast v41
  let arg1 : BitVec 32 := BitVec.ofNat 32 (i 1).val
  let v43 : Index := Scalar.indexCast arg1
  ![v42.toNat, v43.toNat]
def k0_cond7 (v3 : BitVec 32) : BitVec 1 :=
  let c0_i32_13 : BitVec 32 := 0#32
  let v50 : BitVec 1 := Scalar.cmpi .eq v3 c0_i32_13
  let v51 : BitVec 32 := Scalar.extui v50
  let c0_i32_14 : BitVec 32 := 0#32
  let v52 : BitVec 1 := Scalar.cmpi .ne v51 c0_i32_14
  v52

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== ReferenceIdeal.lean ====
abbrev S8192x4096 : Shape := ⟨2, ![8192, 4096]⟩
abbrev S8192x2048 : Shape := ⟨2, ![8192, 2048]⟩
abbrev S8192x128 : Shape := ⟨2, ![8192, 128]⟩
abbrev S128 : Shape := ⟨1, ![128]⟩
abbrev S16x36 : Shape := ⟨2, ![16, 36]⟩
abbrev S8192x16x128 : Shape := ⟨3, ![8192, 16, 128]⟩
abbrev S8192x16 : Shape := ⟨2, ![8192, 16]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8192x8192x1 : Shape := ⟨3, ![8192, 8192, 1]⟩
abbrev S16x128x8192 : Shape := ⟨3, ![16, 128, 8192]⟩

abbrev nBuf : Space → Nat
  | .hbm => 148
  | .vmem => 0
  | .smem => 0
  | _ => 0

abbrev hbmTy0_0 (i : Nat) : BufTy := match i % 128 with
  | 0 => ⟨S8192x4096, .bf16⟩
  | 1 => ⟨S8192x2048, .bf16⟩
  | 2 => ⟨S8192x128, .f32⟩
  | 3 => ⟨S128, .f32⟩
  | 4 => ⟨S128, .f32⟩
  | 5 => ⟨S16x36, .i32⟩
  | 6 => ⟨S8192x2048, .bf16⟩
  | 7 => ⟨S8192x2048, .f32⟩
  | 8 => ⟨S8192x16x128, .f32⟩
  | 9 => ⟨S8192x2048, .bf16⟩
  | 10 => ⟨S8192x2048, .f32⟩
  | 11 => ⟨S8192x16x128, .f32⟩
  | 12 => ⟨S8192x2048, .f32⟩
  | 13 => ⟨S8192x16x128, .f32⟩
  | 14 => ⟨S8192x16, .f32⟩
  | 15 => ⟨S16x8192, .f32⟩
  | 16 => ⟨S16x8192x8192, .f32⟩
  | 17 => ⟨S_, .f32⟩
  | 18 => ⟨S_, .f32⟩
  | 19 => ⟨S16x8192x8192, .f32⟩
  | 20 => ⟨S16x8192x8192, .f32⟩
  | 21 => ⟨S16x8192x1, .f32⟩
  | 22 => ⟨S16x8192x8192, .f32⟩
  | 23 => ⟨S16x8192x8192, .f32⟩
  | 24 => ⟨S16x1x8192, .f32⟩
  | 25 => ⟨S16x8192x8192, .f32⟩
  | 26 => ⟨S16x8192x8192, .f32⟩
  | 27 => ⟨S8192, .i32⟩
  | 28 => ⟨S1x8192, .i32⟩
  | 29 => ⟨S8192x1, .i32⟩
  | 30 => ⟨S8192x8192, .i32⟩
  | 31 => ⟨S8192x8192, .i32⟩
  | 32 => ⟨S8192x8192, .i1⟩
  | 33 => ⟨S8192x1, .i32⟩
  | 34 => ⟨S_, .i32⟩
  | 35 => ⟨S_, .i32⟩
  | 36 => ⟨S8192x1, .i32⟩
  | 37 => ⟨S8192x1, .i32⟩
  | 38 => ⟨S8192x1, .i32⟩
  | 39 => ⟨S_, .i32⟩
  | 40 => ⟨S8192x1, .i32⟩
  | 41 => ⟨S8192x1, .i1⟩
  | 42 => ⟨S8192x1, .i32⟩
  | 43 => ⟨S8192x1, .i32⟩
  | 44 => ⟨S_, .i32⟩
  | 45 => ⟨S8192x1, .i32⟩
  | 46 => ⟨S8192x1, .i1⟩
  | 47 => ⟨S8192x1, .i1⟩
  | 48 => ⟨S_, .i32⟩
  | 49 => ⟨S8192x1, .i32⟩
  | 50 => ⟨S8192x1, .i32⟩
  | 51 => ⟨S8192x1, .i32⟩
  | 52 => ⟨S1x8192, .i32⟩
  | 53 => ⟨S_, .i32⟩
  | 54 => ⟨S_, .i32⟩
  | 55 => ⟨S1x8192, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S1x8192, .i32⟩
  | 62 => ⟨S1x8192, .i32⟩
  | 63 => ⟨S_, .i32⟩
  | 64 => ⟨S1x8192, .i32⟩
  | 65 => ⟨S1x8192, .i1⟩
  | 66 => ⟨S1x8192, .i1⟩
  | 67 => ⟨S_, .i32⟩
  | 68 => ⟨S1x8192, .i32⟩
  | 69 => ⟨S1x8192, .i32⟩
  | 70 => ⟨S1x8192, .i32⟩
  | 71 => ⟨S8192x8192, .i32⟩
  | 72 => ⟨S8192x8192, .i32⟩
  | 73 => ⟨S8192x8192, .i1⟩
  | 74 => ⟨S_, .i32⟩
  | 75 => ⟨S8192x1, .i32⟩
  | 76 => ⟨S8192x1, .i32⟩
  | 77 => ⟨S8192x1, .i32⟩
  | 78 => ⟨S_, .i32⟩
  | 79 => ⟨S_, .i32⟩
  | 80 => ⟨S8192x1, .i32⟩
  | 81 => ⟨S8192x1, .i32⟩
  | 82 => ⟨S8192x1, .i32⟩
  | 83 => ⟨S_, .i32⟩
  | 84 => ⟨S8192x1, .i32⟩
  | 85 => ⟨S8192x1, .i1⟩
  | 86 => ⟨S8192x1, .i32⟩
  | 87 => ⟨S8192x1, .i32⟩
  | 88 => ⟨S_, .i32⟩
  | 89 => ⟨S8192x1, .i32⟩
  | 90 => ⟨S8192x1, .i1⟩
  | 91 => ⟨S8192x1, .i1⟩
  | 92 => ⟨S_, .i32⟩
  | 93 => ⟨S8192x1, .i32⟩
  | 94 => ⟨S8192x1, .i32⟩
  | 95 => ⟨S8192x1, .i32⟩
  | 96 => ⟨S8192x1, .i32⟩
  | 97 => ⟨S8192x8192, .i32⟩
  | 98 => ⟨S8192x8192, .i32⟩
  | 99 => ⟨S8192x8192, .i32⟩
  | 100 => ⟨S_, .i32⟩
  | 101 => ⟨S_, .i32⟩
  | 102 => ⟨S8192x8192, .i32⟩
  | 103 => ⟨S8192x8192, .i32⟩
  | 104 => ⟨S8192x8192, .i32⟩
  | 105 => ⟨S8192x8192, .i32⟩
  | 106 => ⟨S8192x8192, .i1⟩
  | 107 => ⟨S1x8192x8192, .i1⟩
  | 108 => ⟨S_, .i32⟩
  | 109 => ⟨S8192x8192, .i32⟩
  | 110 => ⟨S8192x8192, .i1⟩
  | 111 => ⟨S_, .i32⟩
  | 112 => ⟨S8192x8192, .i32⟩
  | 113 => ⟨S8192x8192, .i32⟩
  | 114 => ⟨S8192x8192, .i32⟩
  | 115 => ⟨S8192x8192x1, .i32⟩
  | 116 => ⟨S16x8192x8192, .i32⟩
  | 117 => ⟨S_, .i32⟩
  | 118 => ⟨S16x8192x8192, .i32⟩
  | 119 => ⟨S16x8192x8192, .i1⟩
  | 120 => ⟨S16x8192x8192, .i1⟩
  | 121 => ⟨S16x8192x8192, .i1⟩
  | 122 => ⟨S1x8192x8192, .i1⟩
  | 123 => ⟨S16x8192x8192, .i1⟩
  | 124 => ⟨S16x8192x8192, .i1⟩
  | 125 => ⟨S16x8192x8192, .i1⟩
  | 126 => ⟨S_, .f32⟩
  | 127 => ⟨S_, .f32⟩
  | _ => ⟨S8192x4096, .bf16⟩

abbrev hbmTy0_1 (i : Nat) : BufTy := match i % 128 with
  | 0 => ⟨S16x8192x8192, .f32⟩
  | 1 => ⟨S16x8192x8192, .f32⟩
  | 2 => ⟨S_, .f32⟩
  | 3 => ⟨S16x8192, .f32⟩
  | 4 => ⟨S_, .f32⟩
  | 5 => ⟨S16x8192, .f32⟩
  | 6 => ⟨S16x8192, .f32⟩
  | 7 => ⟨S16x8192x1, .f32⟩
  | 8 => ⟨S16x8192x8192, .f32⟩
  | 9 => ⟨S16x8192x8192, .f32⟩
  | 10 => ⟨S16x8192x8192, .f32⟩
  | 11 => ⟨S_, .f32⟩
  | 12 => ⟨S16x8192, .f32⟩
  | 13 => ⟨S16x8192x1, .f32⟩
  | 14 => ⟨S16x8192x8192, .f32⟩
  | 15 => ⟨S16x8192x8192, .f32⟩
  | 16 => ⟨S16x128x8192, .f32⟩
  | 17 => ⟨S8192x16x128, .f32⟩
  | 18 => ⟨S8192x2048, .f32⟩
  | 19 => ⟨S8192x2048, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v27 : Ref sig .tc := ⟨.hbm, 51, rfl⟩
abbrev main_v28 : Ref sig .tc := ⟨.hbm, 52, rfl⟩
abbrev main_c_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_c_1 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_2 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_c : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_0 : Ref sig .tc := ⟨.hbm, 92, rfl⟩
abbrev main_call2_v12 : Ref sig .tc := ⟨.hbm, 93, rfl⟩
abbrev main_call2_v13 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_c_3 : Ref sig .tc := ⟨.hbm, 100, rfl⟩
abbrev main_call3_v0 : Ref sig .tc := ⟨.hbm, 101, rfl⟩
abbrev main_call3_v1 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_4 : Ref sig .tc := ⟨.hbm, 108, rfl⟩
abbrev main_v46 : Ref sig .tc := ⟨.hbm, 109, rfl⟩
abbrev main_v47 : Ref sig .tc := ⟨.hbm, 110, rfl⟩
abbrev main_c_5 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c_6 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_7 : Ref sig .tc := ⟨.hbm, 126, rfl⟩
abbrev main_call4_v0 : Ref sig .tc := ⟨.hbm, 127, rfl⟩
abbrev main_call4_v1 : Ref sig .tc := ⟨.hbm, 128, rfl⟩
abbrev main_v61 : Ref sig .tc := ⟨.hbm, 129, rfl⟩
abbrev main_cst_8 : Ref sig .tc := ⟨.hbm, 130, rfl⟩
abbrev main_v62 : Ref sig .tc := ⟨.hbm, 131, rfl⟩
abbrev main_cst_9 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_10 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩

abbrev nD : Nat := 1
abbrev τ : Topo := Topo.v7x

variable {F : FTy → Type} [FloatOps F]
-- ==== KernelFfn.lean ====
abbrev S8192x4096 : Shape := ⟨2, ![8192, 4096]⟩
abbrev S4x4096x3584 : Shape := ⟨3, ![4, 4096, 3584]⟩
abbrev S8192x3584 : Shape := ⟨2, ![8192, 3584]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4x4096x3584, .bf16⟩
  | .hbm, ⟨2, _⟩ => ⟨S4x4096x3584, .bf16⟩
  | .hbm, ⟨3, _⟩ => ⟨S8192x3584, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFfnIdeal.lean ====
abbrev S8192x4096 : Shape := ⟨2, ![8192, 4096]⟩
abbrev S4x4096x3584 : Shape := ⟨3, ![4, 4096, 3584]⟩
abbrev S1x4096x3584 : Shape := ⟨3, ![1, 4096, 3584]⟩
abbrev S4096x3584 : Shape := ⟨2, ![4096, 3584]⟩
abbrev S8192x3584 : Shape := ⟨2, ![8192, 3584]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x3584, .bf16⟩
  | .hbm, ⟨2, _⟩ => ⟨S4x4096x3584, .bf16⟩
  | .hbm, ⟨3, _⟩ => ⟨S8192x4096, .f32⟩
  | .hbm, ⟨4, _⟩ => ⟨S1x4096x3584, .bf16⟩
  | .hbm, ⟨5, _⟩ => ⟨S4096x3584, .bf16⟩
  | .hbm, ⟨6, _⟩ => ⟨S4096x3584, .f32⟩
  | .hbm, ⟨7, _⟩ => ⟨S8192x3584, .f32⟩
  | .hbm, ⟨8, _⟩ => ⟨S8192x3584, .f32⟩
  | .hbm, ⟨9, _⟩ => ⟨S8192x3584, .f32⟩
  | .hbm, ⟨10, _⟩ => ⟨S_, .f32⟩
  | .hbm, ⟨11, _⟩ => ⟨S8192x3584, .f32⟩
  | .hbm, ⟨12, _⟩ => ⟨S8192x3584, .f32⟩
  | .hbm, ⟨13, _⟩ => ⟨S_, .f32⟩
  | .hbm, ⟨14, _⟩ => ⟨S8192x3584, .f32⟩
  | .hbm, ⟨15, _⟩ => ⟨S8192x3584, .f32⟩
  | .hbm, ⟨16, _⟩ => ⟨S8192x3584, .f32⟩
  | .hbm, ⟨17, _⟩ => ⟨S1x4096x3584, .bf16⟩
  | .hbm, ⟨18, _⟩ => ⟨S4096x3584, .bf16⟩
  | .hbm, ⟨19, _⟩ => ⟨S4096x3584, .f32⟩
  | .hbm, ⟨20, _⟩ => ⟨S8192x3584, .f32⟩
  | .hbm, ⟨21, _⟩ => ⟨S8192x3584, .f32⟩
  | .hbm, ⟨22, _⟩ => ⟨S8192x3584, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== KernelDown.lean ====
abbrev S8192x3584 : Shape := ⟨2, ![8192, 3584]⟩
abbrev S4x3584x4096 : Shape := ⟨3, ![4, 3584, 4096]⟩
abbrev S8192x4096 : Shape := ⟨2, ![8192, 4096]⟩
abbrev S1024x3584 : Shape := ⟨2, ![1024, 3584]⟩
abbrev S1x3584x1024 : Shape := ⟨3, ![1, 3584, 1024]⟩
abbrev S1024x1024 : Shape := ⟨2, ![1024, 1024]⟩
abbrev S3584x1024 : Shape := ⟨2, ![3584, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x3584, .bf16⟩
  | .hbm, ⟨1, _⟩ => ⟨S4x3584x4096, .bf16⟩
  | .hbm, ⟨2, _⟩ => ⟨S8192x4096, .f32⟩
  | .hbm, ⟨3, _⟩ => ⟨S8192x4096, .f32⟩
  | .local _ .vmem, ⟨0, _⟩ => ⟨S1024x3584, .bf16⟩
  | .local _ .vmem, ⟨1, _⟩ => ⟨S1024x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S8192x3584 : Shape := ⟨2, ![8192, 3584]⟩
abbrev S4x3584x4096 : Shape := ⟨3, ![4, 3584, 4096]⟩
abbrev S8192x4096 : Shape := ⟨2, ![8192, 4096]⟩
abbrev S1x3584x4096 : Shape := ⟨3, ![1, 3584, 4096]⟩
abbrev S3584x4096 : Shape := ⟨2, ![3584, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S4x3584x4096, .bf16⟩
  | .hbm, ⟨2, _⟩ => ⟨S8192x4096, .f32⟩
  | .hbm, ⟨3, _⟩ => ⟨S8192x3584, .f32⟩
  | .hbm, ⟨4, _⟩ => ⟨S1x3584x4096, .bf16⟩
  | .hbm, ⟨5, _⟩ => ⟨S3584x4096, .bf16⟩
  | .hbm, ⟨6, _⟩ => ⟨S3584x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelGates.lean ====
abbrev S8192x4096 : Shape := ⟨2, ![8192, 4096]⟩
abbrev S4x4096x8192 : Shape := ⟨3, ![4, 4096, 8192]⟩
abbrev S8192x8192 : Shape := ⟨2, ![8192, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x8192, .bf16⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S8192x4096 : Shape := ⟨2, ![8192, 4096]⟩
abbrev S4x4096x8192 : Shape := ⟨3, ![4, 4096, 8192]⟩
abbrev S1x4096x8192 : Shape := ⟨3, ![1, 4096, 8192]⟩
abbrev S4096x8192 : Shape := ⟨2, ![4096, 8192]⟩
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x8192, .bf16⟩
  | .hbm, ⟨2, _⟩ => ⟨S8192x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelMerge.lean ====
abbrev S8192x2048 : Shape := ⟨2, ![8192, 2048]⟩
abbrev S4x2048x4096 : Shape := ⟨3, ![4, 2048, 4096]⟩
abbrev S8192x8192 : Shape := ⟨2, ![8192, 8192]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x4096, .bf16⟩
  | .hbm, ⟨3, _⟩ => ⟨S4x2048x4096, .bf16⟩
  | .hbm, ⟨4, _⟩ => ⟨S8192x8192, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeIdeal.lean ====
abbrev S8192x2048 : Shape := ⟨2, ![8192, 2048]⟩
abbrev S4x2048x4096 : Shape := ⟨3, ![4, 2048, 4096]⟩
abbrev S8192x8192 : Shape := ⟨2, ![8192, 8192]⟩
abbrev S8192x4096 : Shape := ⟨2, ![8192, 4096]⟩
abbrev S1x2048x4096 : Shape := ⟨3, ![1, 2048, 4096]⟩
abbrev S2048x4096 : Shape := ⟨2, ![2048, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x4096, .bf16⟩
  | .hbm, ⟨3, _⟩ => ⟨S4x2048x4096, .bf16⟩
  | .hbm, ⟨4, _⟩ => ⟨S8192x8192, .bf16⟩
  | .hbm, ⟨5, _⟩ => ⟨S8192x8192, .f32⟩
  | .hbm, ⟨6, _⟩ => ⟨S8192x4096, .f32⟩
  | .hbm, ⟨7, _⟩ => ⟨S8192x2048, .f32⟩
  | .hbm, ⟨8, _⟩ => ⟨S1x2048x4096, .bf16⟩
  | .hbm, ⟨9, _⟩ => ⟨S2048x4096, .bf16⟩
  | .hbm, ⟨10, _⟩ => ⟨S2048x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x2048, .f32⟩
  | .hbm, ⟨15, _⟩ => ⟨S1x2048x4096, .bf16⟩
  | .hbm, ⟨16, _⟩ => ⟨S2048x4096, .bf16⟩
  | .hbm, ⟨17, _⟩ => ⟨S2048x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KernelOut.lean ====
abbrev S8192x4096 : Shape := ⟨2, ![8192, 4096]⟩
abbrev S4x4096x4096 : Shape := ⟨3, ![4, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S8192x4096 : Shape := ⟨2, ![8192, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .bf16⟩
  | .hbm, ⟨2, _⟩ => ⟨S8192x4096, .f32⟩
  | .hbm, ⟨3, _⟩ => ⟨S8192x4096, .f32⟩
  | .hbm, ⟨4, _⟩ => ⟨S1x4096x4096, .bf16⟩
  | .hbm, ⟨5, _⟩ => ⟨S4096x4096, .bf16⟩
  | .hbm, ⟨6, _⟩ => ⟨S4096x4096, .f32⟩
  | .hbm, ⟨7, _⟩ => ⟨S8192x4096, .f32⟩
  | .hbm, ⟨8, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPle.lean ====
abbrev S8192x4096 : Shape := ⟨2, ![8192, 4096]⟩
abbrev S8192x256 : Shape := ⟨2, ![8192, 256]⟩
abbrev S4x4096x4096 : Shape := ⟨3, ![4, 4096, 4096]⟩
abbrev S4x256x4096 : Shape := ⟨3, ![4, 256, 4096]⟩
abbrev S1024x4096 : Shape := ⟨2, ![1024, 4096]⟩
abbrev S1024x256 : Shape := ⟨2, ![1024, 256]⟩
abbrev S1x4096x512 : Shape := ⟨3, ![1, 4096, 512]⟩
abbrev S1x256x512 : Shape := ⟨3, ![1, 256, 512]⟩
abbrev S1024x512 : Shape := ⟨2, ![1024, 512]⟩
abbrev S4096x512 : Shape := ⟨2, ![4096, 512]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8192x256, .bf16⟩
  | .hbm, ⟨2, _⟩ => ⟨S4x4096x4096, .bf16⟩
  | .hbm, ⟨3, _⟩ => ⟨S4x256x4096, .bf16⟩
  | .hbm, ⟨4, _⟩ => ⟨S8192x4096, .f32⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x256, .bf16⟩
  | .local _ .vmem, ⟨3, _⟩ => ⟨S1024x256, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferencePleIdeal.lean ====
abbrev S8192x4096 : Shape := ⟨2, ![8192, 4096]⟩
abbrev S8192x256 : Shape := ⟨2, ![8192, 256]⟩
abbrev S4x4096x4096 : Shape := ⟨3, ![4, 4096, 4096]⟩
abbrev S4x256x4096 : Shape := ⟨3, ![4, 256, 4096]⟩
abbrev S1x256x4096 : Shape := ⟨3, ![1, 256, 4096]⟩
abbrev S256x4096 : Shape := ⟨2, ![256, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x256, .bf16⟩
  | .hbm, ⟨2, _⟩ => ⟨S4x4096x4096, .bf16⟩
  | .hbm, ⟨3, _⟩ => ⟨S4x256x4096, .bf16⟩
  | .hbm, ⟨4, _⟩ => ⟨S8192x4096, .f32⟩
  | .hbm, ⟨5, _⟩ => ⟨S8192x256, .f32⟩
  | .hbm, ⟨6, _⟩ => ⟨S1x256x4096, .bf16⟩
  | .hbm, ⟨7, _⟩ => ⟨S256x4096, .bf16⟩
  | .hbm, ⟨8, _⟩ => ⟨S256x4096, .f32⟩
  | .hbm, ⟨9, _⟩ => ⟨S8192x4096, .f32⟩
  | .hbm, ⟨10, _⟩ => ⟨S8192x4096, .f32⟩
  | .hbm, ⟨11, _⟩ => ⟨S1x4096x4096, .bf16⟩
  | .hbm, ⟨12, _⟩ => ⟨S4096x4096, .bf16⟩
  | .hbm, ⟨13, _⟩ => ⟨S4096x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.IBlocks.lean ====
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.ReadBack
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A conditional block run as one step: what it needs is handed over and what it leaves comes back, on either branch. -/
theorem wp_dite_step {c : Prop} [Decidable c] {E : Set ℕ} {th : Dev nD} (A : c → Prog (TpuEff nD τ sig (Elt F) Λ₀ .tc) PUnit)
    (B : ¬ c → Prog (TpuEff nD τ sig (Elt F) Λ₀ .tc) PUnit) (K : PUnit → sProp 𝕄) (P Q : sProp 𝕄)
    (hA : ∀ h : c, P ⊢ wp frame (wpE (defs₀ (F := F)) Variants.none th none) E (A h) (fun _ => Q))
    (hB : ∀ h : ¬ c, P ⊢ wp frame (wpE (defs₀ (F := F)) Variants.none th none) E (B h) (fun _ => Q)) :
    iprop(P ∗ (Q -∗ K ⟨⟩)) ⊢ wp frame (wpE (defs₀ (F := F)) Variants.none th none) E (dite c A B) K := by
  have h : P ⊢ wp frame (wpE (defs₀ (F := F)) Variants.none th none) E (dite c A B) (fun _ => Q) := by
    split
    · exact hA ‹_›
    · exact hB ‹_›
  iintro ⟨HP, HQ⟩
  ihave Hw := h $$ HP
  iapply (wp_wand_r _ _ _)
  isplitl [Hw]
  · iexact Hw
  iintro %r Hr
  iapply HQ
  iexact Hr

/-- A conditional block whose branches do not read the condition's proof. -/
theorem wp_if_step {c : Prop} [Decidable c] {E : Set ℕ} {th : Dev nD} (A B : Prog (TpuEff nD τ sig (Elt F) Λ₀ .tc) PUnit)
    (K : PUnit → sProp 𝕄) (P Q : sProp 𝕄)
    (hA : c → P ⊢ wp frame (wpE (defs₀ (F := F)) Variants.none th none) E A (fun _ => Q))
    (hB : ¬ c → P ⊢ wp frame (wpE (defs₀ (F := F)) Variants.none th none) E B (fun _ => Q)) :
    iprop(P ∗ (Q -∗ K ⟨⟩)) ⊢ wp frame (wpE (defs₀ (F := F)) Variants.none th none) E (if c then A else B) K :=
  wp_dite_step (fun _ => A) (fun _ => B) K P Q hA hB

/-- The block of a diagonal pair that clears the accumulator. -/
def zr (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let v54 : Vec F S4x1024x256 .f32 ← Prog.lift (.load arg11 (Rect.unit (s := S4x1024x256) ![0, 0, 0] S4x1024x256.size inb_S4x1024x256_S4x1024x256_0_0_0).toLoadRect (View.loadsAt_vmem h_S4x1024x256))
  Prog.lift (.store arg11 (Rect.unit (s := S4x1024x256) ![0, 0, 0] S4x1024x256.size inb_S4x1024x256_S4x1024x256_0_0_0) (k0_pay78 (F := F)) Finset.univ (View.stores_vmem_bits_univ h_S4x1024x256 rfl) (.inl rfl))
  pure ⟨⟩

/-- The block of a diagonal pair: four heads, four row chunks each, under the causal mask. -/
def dg (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let ⟨v55, v58, v87⟩ : Σ' (v55 : IVec S256x1024 32) (v58 : FVec F S1024x256 .bf16), FVec F S256x256 .f32 ← k0_part1 i arg2 harg2 arg3 harg3 arg4 harg4 arg5 harg5 arg6 harg6 arg7 harg7 arg8 harg8 arg9 harg9 arg10 harg10 arg11 harg11
  let v122 : FVec F S1x256x256 .f32 ← k0_part2 i arg2 harg2 arg3 harg3 arg4 harg4 arg5 harg5 arg6 harg6 arg7 harg7 arg8 harg8 arg9 harg9 arg10 harg10 arg11 harg11 v55 v58 v87
  let v155 : Vec F S256x128 .bf16 ← k0_part3 i arg2 harg2 arg3 harg3 arg4 harg4 arg5 harg5 arg6 harg6 arg7 harg7 arg8 harg8 arg9 harg9 arg10 harg10 arg11 harg11 v55 v58 v122
  let ⟨v187, v188⟩ : Σ' (v187 : FVec F S1024x256 .bf16), Vec F S256x128 .bf16 ← k0_part4 i arg2 harg2 arg3 harg3 arg4 harg4 arg5 harg5 arg6 harg6 arg7 harg7 arg8 harg8 arg9 harg9 arg10 harg10 arg11 harg11 v55 v58 v155
  let ⟨v220, v221, cst_130⟩ : Σ' (v220 : Vec F S256x128 .bf16) (v221 : Vec F S512x128 .bf16), FVec F S256x512 .f32 ← k0_part5 i arg2 harg2 arg3 harg3 arg4 harg4 arg5 harg5 arg6 harg6 arg7 harg7 arg8 harg8 arg9 harg9 arg10 harg10 arg11 harg11 v55 v187 v188
  let v256 : FVec F S256x768 .f32 ← k0_part6 i arg2 harg2 arg3 harg3 arg4 harg4 arg5 harg5 arg6 harg6 arg7 harg7 arg8 harg8 arg9 harg9 arg10 harg10 arg11 harg11 v55 v187 v220 v221 cst_130
  let ⟨v288, v289⟩ : Σ' (v288 : FVec F S256x1024 .f32), Vec F S1x256x1 .f32 ← k0_part7 i arg2 harg2 arg3 harg3 arg4 harg4 arg5 harg5 arg6 harg6 arg7 harg7 arg8 harg8 arg9 harg9 arg10 harg10 arg11 harg11 v55 v187 v256
  let ⟨v316, v321, v322⟩ : Σ' (v316 : FVec F S1024x256 .bf16) (v321 : FVec F S256x256 .f32), Vec F S1x256x1 .f32 ← k0_part8 i arg2 harg2 arg3 harg3 arg4 harg4 arg5 harg5 arg6 harg6 arg7 harg7 arg8 harg8 arg9 harg9 arg10 harg10 arg11 harg11 v55 v187 v288 v289
  let ⟨v353, v357⟩ : Σ' (v353 : FVec F S256x512 .f32), FVec F S256x1 .f32 ← k0_part9 i arg2 harg2 arg3 harg3 arg4 harg4 arg5 harg5 arg6 harg6 arg7 harg7 arg8 harg8 arg9 harg9 arg10 harg10 arg11 harg11 v55 v316 v321 v322
  let v391 : FVec F S256x768 .f32 ← k0_part10 i arg2 harg2 arg3 harg3 arg4 harg4 arg5 harg5 arg6 harg6 arg7 harg7 arg8 harg8 arg9 harg9 arg10 harg10 arg11 harg11 v55 v316 v353 v357
  let ⟨v423, v425, cst_279⟩ : Σ' (v423 : FVec F S256x1024 .f32) (v425 : FVec F S1x1024 .f32), F .f32 ← k0_part11 i arg2 harg2 arg3 harg3 arg4 harg4 arg5 harg5 arg6 harg6 arg7 harg7 arg8 harg8 arg9 harg9 arg10 harg10 arg11 harg11 v55 v316 v391
  let ⟨v445, v456, v458, cst_303⟩ : Σ' (v445 : FVec F S1024x256 .bf16) (v456 : FVec F S256x256 .f32) (v458 : FVec F S1x256 .f32), F .f32 ← k0_part12 i arg2 harg2 arg3 harg3 arg4 harg4 arg5 harg5 arg6 harg6 arg7 harg7 arg8 harg8 arg9 harg9 arg10 harg10 arg11 harg11 v55 v316 v423 v425 cst_279
  let v494 : FVec F S256x512 .f32 ← k0_part13 i arg2 harg2 arg3 harg3 arg4 harg4 arg5 harg5 arg6 harg6 arg7 harg7 arg8 harg8 arg9 harg9 arg10 harg10 arg11 harg11 v55 v445 v456 v458 cst_303
  let ⟨v526, v529⟩ : Σ' (v526 : FVec F S256x768 .f32), IVec S256x768 1 ← k0_part14 i arg2 harg2 arg3 harg3 arg4 harg4 arg5 harg5 arg6 harg6 arg7 harg7 arg8 harg8 arg9 harg9 arg10 harg10 arg11 harg11 v55 v445 v494
  let v564 : FVec F S256x1024 .bf16 ← k0_part15 i arg2 harg2 arg3 harg3 arg4 harg4 arg5 harg5 arg6 harg6 arg7 harg7 arg8 harg8 arg9 harg9 arg10 harg10 arg11 harg11 v55 v445 v526 v529
  let v565 : Vec F S1x256x256 .f32 ← Prog.lift (.load arg11 (Rect.unit (s := S4x1024x256) ![3, 768, 0] S1x256x256.size inb_S4x1024x256_S1x256x256_3_768_0).toLoadRect (View.loadsAt_vmem h_S1x256x256))
  let v569 : Vec F S1x256x256 .f32 ← Prog.lift (.load arg11 (Rect.unit (s := S4x1024x256) ![3, 768, 0] S1x256x256.size inb_S4x1024x256_S1x256x256_3_768_0).toLoadRect (View.loadsAt_vmem h_S1x256x256))
  Prog.lift (.store arg11 (Rect.unit (s := S4x1024x256) ![3, 768, 0] S1x256x256.size inb_S4x1024x256_S1x256x256_3_768_0) (k0_pay79 v445 v564 v565) Finset.univ (View.stores_vmem_bits_univ h_S1x256x256 rfl) (.inl rfl))
  pure ⟨⟩

/-- The block of an off-diagonal pair for head 0 of the group: four row chunks. -/
def hd0 (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let ⟨v55, v82, v83⟩ : Σ' (v55 : FVec F S1024x256 .bf16) (v82 : Vec F S256x128 .bf16), Vec F S1024x128 .bf16 ← k0_part16 i arg2 harg2 arg3 harg3 arg4 harg4 arg5 harg5 arg6 harg6 arg7 harg7 arg8 harg8 arg9 harg9 arg10 harg10 arg11 harg11
  let ⟨v112, v114, v115⟩ : Σ' (v112 : FVec F S256x1024 .f32) (v114 : FVec F S256x1 .f32), FVec F S256x1 .f32 ← k0_part17 i arg2 harg2 arg3 harg3 arg4 harg4 arg5 harg5 arg6 harg6 arg7 harg7 arg8 harg8 arg9 harg9 arg10 harg10 arg11 harg11 v55 v82 v83
  let ⟨v144, v149⟩ : Σ' (v144 : FVec F S256x1024 .f32), FVec F S256x1024 .f32 ← k0_part18 i arg2 harg2 arg3 harg3 arg4 harg4 arg5 harg5 arg6 harg6 arg7 harg7 arg8 harg8 arg9 harg9 arg10 harg10 arg11 harg11 v55 v112 v114 v115
  let v153 : Vec F S1x256x256 .f32 ← Prog.lift (.load arg11 (Rect.unit (s := S4x1024x256) ![0, 768, 0] S1x256x256.size inb_S4x1024x256_S1x256x256_0_768_0).toLoadRect (View.loadsAt_vmem h_S1x256x256))
  let v157 : Vec F S1x256x256 .f32 ← Prog.lift (.load arg11 (Rect.unit (s := S4x1024x256) ![0, 768, 0] S1x256x256.size inb_S4x1024x256_S1x256x256_0_768_0).toLoadRect (View.loadsAt_vmem h_S1x256x256))
  Prog.lift (.store arg11 (Rect.unit (s := S4x1024x256) ![0, 768, 0] S1x256x256.size inb_S4x1024x256_S1x256x256_0_768_0) (k0_pay80 v55 v144 v149 v153) Finset.univ (View.stores_vmem_bits_univ h_S1x256x256 rfl) (.inl rfl))
  pure ⟨⟩

/-- The block of an off-diagonal pair for head 1 of the group: four row chunks. -/
def hd1 (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let ⟨v55, v82, v83⟩ : Σ' (v55 : FVec F S1024x256 .bf16) (v82 : Vec F S256x128 .bf16), Vec F S1024x128 .bf16 ← k0_part19 i arg2 harg2 arg3 harg3 arg4 harg4 arg5 harg5 arg6 harg6 arg7 harg7 arg8 harg8 arg9 harg9 arg10 harg10 arg11 harg11
  let ⟨v112, v114, v115⟩ : Σ' (v112 : FVec F S256x1024 .f32) (v114 : FVec F S256x1 .f32), FVec F S256x1 .f32 ← k0_part20 i arg2 harg2 arg3 harg3 arg4 harg4 arg5 harg5 arg6 harg6 arg7 harg7 arg8 harg8 arg9 harg9 arg10 harg10 arg11 harg11 v55 v82 v83
  let ⟨v144, v149⟩ : Σ' (v144 : FVec F S256x1024 .f32), FVec F S256x1024 .f32 ← k0_part21 i arg2 harg2 arg3 harg3 arg4 harg4 arg5 harg5 arg6 harg6 arg7 harg7 arg8 harg8 arg9 harg9 arg10 harg10 arg11 harg11 v55 v112 v114 v115
  let v153 : Vec F S1x256x256 .f32 ← Prog.lift (.load arg11 (Rect.unit (s := S4x1024x256) ![1, 768, 0] S1x256x256.size inb_S4x1024x256_S1x256x256_1_768_0).toLoadRect (View.loadsAt_vmem h_S1x256x256))
  let v157 : Vec F S1x256x256 .f32 ← Prog.lift (.load arg11 (Rect.unit (s := S4x1024x256) ![1, 768, 0] S1x256x256.size inb_S4x1024x256_S1x256x256_1_768_0).toLoadRect (View.loadsAt_vmem h_S1x256x256))
  Prog.lift (.store arg11 (Rect.unit (s := S4x1024x256) ![1, 768, 0] S1x256x256.size inb_S4x1024x256_S1x256x256_1_768_0) (k0_pay81 v55 v144 v149 v153) Finset.univ (View.stores_vmem_bits_univ h_S1x256x256 rfl) (.inl rfl))
  pure ⟨⟩

/-- The block of an off-diagonal pair for head 2 of the group: four row chunks. -/
def hd2 (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let ⟨v55, v82, v83⟩ : Σ' (v55 : FVec F S1024x256 .bf16) (v82 : Vec F S256x128 .bf16), Vec F S1024x128 .bf16 ← k0_part22 i arg2 harg2 arg3 harg3 arg4 harg4 arg5 harg5 arg6 harg6 arg7 harg7 arg8 harg8 arg9 harg9 arg10 harg10 arg11 harg11
  let ⟨v112, v114, v115⟩ : Σ' (v112 : FVec F S256x1024 .f32) (v114 : FVec F S256x1 .f32), FVec F S256x1 .f32 ← k0_part23 i arg2 harg2 arg3 harg3 arg4 harg4 arg5 harg5 arg6 harg6 arg7 harg7 arg8 harg8 arg9 harg9 arg10 harg10 arg11 harg11 v55 v82 v83
  let ⟨v144, v149⟩ : Σ' (v144 : FVec F S256x1024 .f32), FVec F S256x1024 .f32 ← k0_part24 i arg2 harg2 arg3 harg3 arg4 harg4 arg5 harg5 arg6 harg6 arg7 harg7 arg8 harg8 arg9 harg9 arg10 harg10 arg11 harg11 v55 v112 v114 v115
  let v153 : Vec F S1x256x256 .f32 ← Prog.lift (.load arg11 (Rect.unit (s := S4x1024x256) ![2, 768, 0] S1x256x256.size inb_S4x1024x256_S1x256x256_2_768_0).toLoadRect (View.loadsAt_vmem h_S1x256x256))
  let v157 : Vec F S1x256x256 .f32 ← Prog.lift (.load arg11 (Rect.unit (s := S4x1024x256) ![2, 768, 0] S1x256x256.size inb_S4x1024x256_S1x256x256_2_768_0).toLoadRect (View.loadsAt_vmem h_S1x256x256))
  Prog.lift (.store arg11 (Rect.unit (s := S4x1024x256) ![2, 768, 0] S1x256x256.size inb_S4x1024x256_S1x256x256_2_768_0) (k0_pay1 v55 v144 v149 v153) Finset.univ (View.stores_vmem_bits_univ h_S1x256x256 rfl) (.inl rfl))
  pure ⟨⟩

/-- The block of an off-diagonal pair for head 3 of the group: four row chunks. -/
def hd3 (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let ⟨v55, v82, v83⟩ : Σ' (v55 : FVec F S1024x256 .bf16) (v82 : Vec F S256x128 .bf16), Vec F S1024x128 .bf16 ← k0_part25 i arg2 harg2 arg3 harg3 arg4 harg4 arg5 harg5 arg6 harg6 arg7 harg7 arg8 harg8 arg9 harg9 arg10 harg10 arg11 harg11
  let ⟨v112, v114, v115⟩ : Σ' (v112 : FVec F S256x1024 .f32) (v114 : FVec F S256x1 .f32), FVec F S256x1 .f32 ← k0_part26 i arg2 harg2 arg3 harg3 arg4 harg4 arg5 harg5 arg6 harg6 arg7 harg7 arg8 harg8 arg9 harg9 arg10 harg10 arg11 harg11 v55 v82 v83
  let ⟨v144, v149⟩ : Σ' (v144 : FVec F S256x1024 .f32), FVec F S256x1024 .f32 ← k0_part27 i arg2 harg2 arg3 harg3 arg4 harg4 arg5 harg5 arg6 harg6 arg7 harg7 arg8 harg8 arg9 harg9 arg10 harg10 arg11 harg11 v55 v112 v114 v115
  let v153 : Vec F S1x256x256 .f32 ← Prog.lift (.load arg11 (Rect.unit (s := S4x1024x256) ![3, 768, 0] S1x256x256.size inb_S4x1024x256_S1x256x256_3_768_0).toLoadRect (View.loadsAt_vmem h_S1x256x256))
  let v157 : Vec F S1x256x256 .f32 ← Prog.lift (.load arg11 (Rect.unit (s := S4x1024x256) ![3, 768, 0] S1x256x256.size inb_S4x1024x256_S1x256x256_3_768_0).toLoadRect (View.loadsAt_vmem h_S1x256x256))
  Prog.lift (.store arg11 (Rect.unit (s := S4x1024x256) ![3, 768, 0] S1x256x256.size inb_S4x1024x256_S1x256x256_3_768_0) (k0_pay2 v55 v144 v149 v153) Finset.univ (View.stores_vmem_bits_univ h_S1x256x256 rfl) (.inl rfl))
  pure ⟨⟩

/-- The block of a last pair: the four quotients, one head after another. -/
def fin (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) :
    Prog (TpuEff nD τ sig (Elt F) Λ₀ .tc) PUnit := do
  let v79 : FVec F S1024x128 .bf16 ← k0_part28 i arg2 harg2 arg3 harg3 arg4 harg4 arg5 harg5 arg6 harg6 arg7 harg7 arg8 harg8 arg9 harg9 arg10 harg10 arg11 harg11
  let v80 : Vec F S1024x128 .bf16 ← Prog.lift (.load arg10 (Rect.unit (s := S1024x512) ![0, 384] S1024x128.size inb_S1024x512_S1024x128_0_384).toLoadRect (View.loadsAt_vmem h_S1024x128))
  Prog.lift (.store arg10 (Rect.unit (s := S1024x512) ![0, 384] S1024x128.size inb_S1024x512_S1024x128_0_384) v79 Finset.univ (View.stores_vmem h_S1024x128 (harg10.storeExact_slice rfl _ packedbf16_S1024x512_S1024x128_0_384) (fun _ => rfl)) (.inl rfl))
  pure ⟨⟩

/-! ## The blocks of the operands a chunk reads -/

/-- The 256 query rows of row chunk `t`, head `h` of the group. -/
def qS (x : Vec F S1024x512 .bf16) (h t : Fin 4) : Vec F S256x128 .bf16 :=
  View.ld x (Rect.unit (s := S1024x512) ![256 * t.val, 128 * h.val] S256x128.size (by
    intro a; have := h.isLt; have := t.isLt; match a with
    | 0 => show 256 * t.val + 256 ≤ 1024; omega
    | 1 => show 128 * h.val + 128 ≤ 512; omega))

/-- The first `n` rows of a 1024-row block, head `h` of the group. -/
def kS (n : ℕ) (hn : n ≤ 1024) (x : Vec F S1024x512 .bf16) (h : Fin 4) : Vec F ⟨2, ![n, 128]⟩ .bf16 :=
  View.ld x (Rect.unit (s := S1024x512) ![0, 128 * h.val] ![n, 128] (by
    intro a; have := h.isLt; match a with
    | 0 => show 0 + n ≤ 1024; omega
    | 1 => show 128 * h.val + 128 ≤ 512; omega))

/-- The shifted gate sums of the queries of row chunk `t`, head `h` of the group. -/
def fcS (x : Vec F S4x1024x1 .f32) (h t : Fin 4) : Vec F S1x256x1 .f32 :=
  View.ld x (Rect.unit (s := S4x1024x1) ![h.val, 256 * t.val, 0] S1x256x1.size (by
    intro a; have := h.isLt; have := t.isLt; match a with
    | 0 => show h.val + 1 ≤ 4; omega
    | 1 => show 256 * t.val + 256 ≤ 1024; omega
    | 2 => show 0 + 1 ≤ 1; omega))

/-- The gate sums of the first `n` keys, head `h` of the group. -/
def frS (n : ℕ) (hn : n ≤ 1024) (x : Vec F S4x1x1024 .f32) (h : Fin 4) : Vec F ⟨3, ![1, 1, n]⟩ .f32 :=
  View.ld x (Rect.unit (s := S4x1x1024) ![h.val, 0, 0] ![1, 1, n] (by
    intro a; have := h.isLt; match a with
    | 0 => show h.val + 1 ≤ 4; omega
    | 1 => show 0 + 1 ≤ 1; omega
    | 2 => show 0 + n ≤ 1024; omega))

/-- Row chunk `t` of head `h` lies inside the accumulator. -/
theorem acc_inb (h t : Fin 4) : ∀ a, (![h.val, 256 * t.val, 0] : Fin 3 → ℕ) a + S1x256x256.size a ≤ S4x1024x256.size a := by
  intro a; have := h.isLt; have := t.isLt; match a with
    | 0 => show h.val + 1 ≤ 4; omega
    | 1 => show 256 * t.val + 256 ≤ 1024; omega
    | 2 => show 0 + 256 ≤ 256; omega

/-- Row chunk `t` of head `h` of the accumulator. -/
def aS (x : Vec F S4x1024x256 .f32) (h t : Fin 4) : Vec F S1x256x256 .f32 :=
  View.ld x (Rect.unit (s := S4x1024x256) ![h.val, 256 * t.val, 0] S1x256x256.size (acc_inb h t))

/-- The accumulator's row chunk after an off-diagonal pair. -/
def fullC (x0 x1 x2 : Vec F S1024x512 .bf16) (x3 : Vec F S4x1024x1 .f32) (x4 : Vec F S4x1x1024 .f32) (acc : Vec F S4x1024x256 .f32)
    (h t : Fin 4) : Vec F S1x256x256 .f32 :=
  k0_pay39 (kS 1024 (by omega) x2 h) (qS x0 h t) (kS 1024 (by omega) x1 h) (fcS x3 h t) (frS 1024 (by omega) x4 h) (aS acc h t)

/-- The accumulator's row chunk after a diagonal pair. -/
def diagC (x0 x1 x2 : Vec F S1024x512 .bf16) (x3 : Vec F S4x1024x1 .f32) (x4 : Vec F S4x1x1024 .f32) (acc : Vec F S4x1024x256 .f32)
    (h : Fin 4) : (t : Fin 4) → Vec F S1x256x256 .f32
  | 0 => k0_pay6 (k0_pay5 (kS 1024 (by omega) x2 h) (qS x0 h 0) (kS 256 (by omega) x1 h) (fcS x3 h 0) (frS 256 (by omega) x4 h) (aS acc h 0))
  | 1 => k0_pay7 k0_pay3 (k0_pay4 (kS 1024 (by omega) x2 h)) (qS x0 h 1) (kS 512 (by omega) x1 h) (fcS x3 h 1) (frS 512 (by omega) x4 h) (aS acc h 1)
  | 2 => k0_pay8 k0_pay3 (k0_pay4 (kS 1024 (by omega) x2 h)) (qS x0 h 2) (kS 768 (by omega) x1 h) (fcS x3 h 2) (frS 768 (by omega) x4 h) (aS acc h 2)
  | 3 => k0_pay9 k0_pay3 (k0_pay4 (kS 1024 (by omega) x2 h)) (qS x0 h 3) (kS 1024 (by omega) x1 h) (fcS x3 h 3) (frS 1024 (by omega) x4 h) (aS acc h 3)

/-- Where an accumulator index lies: its head in the group. -/
def headOf (j : S4x1024x256.Idx) : Fin 4 := ⟨(j 0).val, (j 0).isLt⟩

/-- Where an accumulator index lies: its row chunk. -/
def chunkOf (j : S4x1024x256.Idx) : Fin 4 := ⟨(j 1).val / 256, by have : (j 1).val < 1024 := (j 1).isLt; omega⟩

/-- Where an accumulator index lies within its row chunk. -/
def inChunk (j : S4x1024x256.Idx) : S1x256x256.Idx := fun a => match a with
  | 0 => ⟨0, Nat.one_pos⟩
  | 1 => ⟨(j 1).val % 256, Nat.mod_lt _ (by norm_num)⟩
  | 2 => ⟨(j 2).val, (j 2).isLt⟩

/-- A store of row chunk `t` of head `h`. -/
def mkP (G : Fin 4 → Fin 4 → Vec F S1x256x256 .f32) (p : Fin 4 × Fin 4) : View.Piece (Elt F) S4x1024x256 .f32 :=
  ⟨Rect.unit (s := S4x1024x256) ![p.1.val, 256 * p.2.val, 0] S1x256x256.size (acc_inb p.1 p.2), G p.1 p.2⟩

/-- What stores of row chunks leave: the chunks stored, and elsewhere what was there. -/
theorem read_chunks {sp : Space} (v : View sig .tc sp S4x1024x256 .f32) (f : v.ty.Contents (Elt F)) (G : Fin 4 → Fin 4 → Vec F S1x256x256 .f32) :
    ∀ (l : List (Fin 4 × Fin 4)) (j : S4x1024x256.Idx),
      v.read (Elt F) (v.writes (Elt F) f (l.map (mkP G))) j = if ((headOf j), chunkOf j) ∈ l then G (headOf j) (chunkOf j) (inChunk j) else v.read (Elt F) f j := by
  intro l
  induction l with
  | nil => intro j; rw [if_neg List.not_mem_nil]; rfl
  | cons p l ih =>
    intro j
    have hj1 : (j 1).val < 1024 := (j 1).isLt
    have hj0 : (j 0).val < 4 := (j 0).isLt
    rw [List.map_cons]
    by_cases hp : ((headOf j), chunkOf j) = p
    · subst hp
      rw [if_pos List.mem_cons_self]
      refine View.read_writes_cons_unit_of_mem v f _ _ _ j (inChunk j) rfl ?_
      intro a
      match a with
      | 0 => rfl
      | 1 => show (j 1).val = 256 * ((j 1).val / 256) + (j 1).val % 256; omega
      | 2 => show (j 2).val = 0 + (j 2).val; omega
    · have hne : (j 0).val ≠ p.1.val ∨ (j 1).val / 256 ≠ p.2.val := by
        by_contra hcon
        rw [not_or, not_not, not_not] at hcon
        exact hp (Prod.ext (Fin.ext hcon.1) (Fin.ext hcon.2))
      have hmem : (((headOf j), chunkOf j) ∈ p :: l) = (((headOf j), chunkOf j) ∈ l) := by
        rw [List.mem_cons]; exact propext ⟨fun h => h.resolve_left hp, Or.inr⟩
      rw [if_congr (iff_of_eq hmem) rfl rfl, ← ih j]
      have hp2 := p.2.isLt
      rcases hne with h | h
      · refine View.read_writes_cons_unit_of_not_mem v f _ _ _ j rfl 0 ?_
        show (j 0).val < p.1.val ∨ p.1.val + 1 ≤ (j 0).val; omega
      · refine View.read_writes_cons_unit_of_not_mem v f _ _ _ j rfl 1 ?_
        show (j 1).val < 256 * p.2.val ∨ 256 * p.2.val + 256 ≤ (j 1).val; omega

/-- The accumulator after an off-diagonal pair's block of head `h`. -/
def updH (h : Fin 4) (x0 x1 x2 : Vec F S1024x512 .bf16) (x3 : Vec F S4x1024x1 .f32) (x4 : Vec F S4x1x1024 .f32) (acc : Vec F S4x1024x256 .f32) :
    Vec F S4x1024x256 .f32 :=
  fun j => if (headOf j) = h then fullC x0 x1 x2 x3 x4 acc (headOf j) (chunkOf j) (inChunk j) else acc j

/-- The accumulator after a diagonal pair's block. -/
def updD (x0 x1 x2 : Vec F S1024x512 .bf16) (x3 : Vec F S4x1024x1 .f32) (x4 : Vec F S4x1x1024 .f32) (acc : Vec F S4x1024x256 .f32) :
    Vec F S4x1024x256 .f32 :=
  fun j => diagC x0 x1 x2 x3 x4 acc (headOf j) (chunkOf j) (inChunk j)

/-- Four stores, one for each row chunk of head `h`. -/
theorem read_head {sp : Space} (v : View sig .tc sp S4x1024x256 .f32) (f : v.ty.Contents (Elt F)) (h : Fin 4)
    (x0 x1 x2 : Vec F S1024x512 .bf16) (x3 : Vec F S4x1024x1 .f32) (x4 : Vec F S4x1x1024 .f32) (acc : Vec F S4x1024x256 .f32) (hf : v.read (Elt F) f = acc)
    (L : List (View.Piece (Elt F) S4x1024x256 .f32)) (hL : L = [(h, 3), (h, 2), (h, 1), (h, 0)].map (mkP (fullC x0 x1 x2 x3 x4 acc))) :
    v.read (Elt F) (v.writes (Elt F) f L) = updH h x0 x1 x2 x3 x4 acc := by
  subst hL
  funext j
  rw [read_chunks, hf]
  have ht : ∀ t : Fin 4, t = 3 ∨ t = 2 ∨ t = 1 ∨ t = 0 := by decide
  unfold updH
  refine if_congr ?_ rfl rfl
  rcases ht (chunkOf j) with e | e | e | e <;> rw [e] <;> simp

/-- Sixteen stores, one for each row chunk of each head. -/
theorem read_diag {sp : Space} (v : View sig .tc sp S4x1024x256 .f32) (f : v.ty.Contents (Elt F))
    (x0 x1 x2 : Vec F S1024x512 .bf16) (x3 : Vec F S4x1024x1 .f32) (x4 : Vec F S4x1x1024 .f32) (acc : Vec F S4x1024x256 .f32)
    (L : List (View.Piece (Elt F) S4x1024x256 .f32))
    (hL : L = [(3, 3), (3, 2), (3, 1), (3, 0), (2, 3), (2, 2), (2, 1), (2, 0), (1, 3), (1, 2), (1, 1), (1, 0), (0, 3), (0, 2), (0, 1), (0, 0)].map (mkP (diagC x0 x1 x2 x3 x4 acc))) :
    v.read (Elt F) (v.writes (Elt F) f L) = updD x0 x1 x2 x3 x4 acc := by
  subst hL
  funext j
  rw [read_chunks]
  have ht : ∀ h t : Fin 4, (h, t) ∈ [((3 : Fin 4), (3 : Fin 4)), (3, 2), (3, 1), (3, 0), (2, 3), (2, 2), (2, 1), (2, 0), (1, 3), (1, 2), (1, 1), (1, 0), (0, 3), (0, 2), (0, 1), (0, 0)] := by decide
  rw [if_pos (ht _ _)]
  rfl

/-! ## The last pair's quotients -/

/-- The numerators of head `h` of the group. -/
def nS (acc : Vec F S4x1024x256 .f32) (h : Fin 4) : Vec F S1x1024x128 .f32 :=
  View.ld acc (Rect.unit (s := S4x1024x256) ![h.val, 0, 0] S1x1024x128.size (by
    intro a; have := h.isLt; match a with
    | 0 => show h.val + 1 ≤ 4; omega
    | 1 => show 0 + 1024 ≤ 1024; omega
    | 2 => show 0 + 128 ≤ 256; omega))

/-- The denominators of head `h` of the group. -/
def dS (acc : Vec F S4x1024x256 .f32) (h : Fin 4) : Vec F S1x1024x128 .f32 :=
  View.ld acc (Rect.unit (s := S4x1024x256) ![h.val, 0, 128] S1x1024x128.size (by
    intro a; have := h.isLt; match a with
    | 0 => show h.val + 1 ≤ 4; omega
    | 1 => show 0 + 1024 ≤ 1024; omega
    | 2 => show 128 + 128 ≤ 256; omega))

/-- The columns of head `h` lie inside the output block. -/
theorem out_inb (h : Fin 4) : ∀ a, (![0, 128 * h.val] : Fin 2 → ℕ) a + S1024x128.size a ≤ S1024x512.size a := by
  intro a; have := h.isLt; match a with
    | 0 => show 0 + 1024 ≤ 1024; omega
    | 1 => show 128 * h.val + 128 ≤ 512; omega

/-- The head of an output index. -/
def outHead (j : S1024x512.Idx) : Fin 4 := ⟨(j 1).val / 128, by have : (j 1).val < 512 := (j 1).isLt; omega⟩

/-- An output index within its head. -/
def inHead (j : S1024x512.Idx) : S1024x128.Idx := fun a => match a with
  | 0 => ⟨(j 0).val, (j 0).isLt⟩
  | 1 => ⟨(j 1).val % 128, Nat.mod_lt _ (by norm_num)⟩

/-- A store of the columns of head `h`. -/
def mkO (G : Fin 4 → Vec F S1024x128 .bf16) (h : Fin 4) : View.Piece (Elt F) S1024x512 .bf16 :=
  ⟨Rect.unit (s := S1024x512) ![0, 128 * h.val] S1024x128.size (out_inb h), G h⟩

/-- What stores of heads' columns leave: the heads stored, and elsewhere what was there. -/
theorem read_heads {sp : Space} (v : View sig .tc sp S1024x512 .bf16) (f : v.ty.Contents (Elt F)) (G : Fin 4 → Vec F S1024x128 .bf16) :
    ∀ (l : List (Fin 4)) (j : S1024x512.Idx),
      v.read (Elt F) (v.writes (Elt F) f (l.map (mkO G))) j = if outHead j ∈ l then G (outHead j) (inHead j) else v.read (Elt F) f j := by
  intro l
  induction l with
  | nil => intro j; rw [if_neg List.not_mem_nil]; rfl
  | cons p l ih =>
    intro j
    have hj1 : (j 1).val < 512 := (j 1).isLt
    rw [List.map_cons]
    by_cases hp : outHead j = p
    · subst hp
      rw [if_pos List.mem_cons_self]
      refine View.read_writes_cons_unit_of_mem v f _ _ _ j (inHead j) rfl ?_
      intro a
      match a with
      | 0 => show (j 0).val = 0 + (j 0).val; omega
      | 1 => show (j 1).val = 128 * ((j 1).val / 128) + (j 1).val % 128; omega
    · have hne : (j 1).val / 128 ≠ p.val := fun h => hp (Fin.ext h)
      have hmem : (outHead j ∈ p :: l) = (outHead j ∈ l) := by
        rw [List.mem_cons]; exact propext ⟨fun h => h.resolve_left hp, Or.inr⟩
      rw [if_congr (iff_of_eq hmem) rfl rfl, ← ih j]
      have hp2 := p.isLt
      refine View.read_writes_cons_unit_of_not_mem v f _ _ _ j rfl 1 ?_
      show (j 1).val < 128 * p.val ∨ 128 * p.val + 128 ≤ (j 1).val; omega

/-- The output block a last pair stores. -/
def outF (acc : Vec F S4x1024x256 .f32) : Vec F S1024x512 .bf16 :=
  fun j => k0_pay74 (nS acc (outHead j)) (dS acc (outHead j)) (inHead j)

/-- Four stores, one for each head, leave the whole output block. -/
theorem read_out {sp : Space} (v : View sig .tc sp S1024x512 .bf16) (f : v.ty.Contents (Elt F)) (acc : Vec F S4x1024x256 .f32)
    (L : List (View.Piece (Elt F) S1024x512 .bf16)) (hL : L = [3, 2, 1, 0].map (mkO fun h => k0_pay74 (nS acc h) (dS acc h))) :
    v.read (Elt F) (v.writes (Elt F) f L) = outF acc := by
  subst hL
  funext j
  rw [read_heads]
  have ht : ∀ h : Fin 4, h ∈ [(3 : Fin 4), 2, 1, 0] := by decide
  rw [if_pos (ht _)]
  rfl

set_option maxHeartbeats 1000000 in
/-- The off-diagonal block of head 0 leaves the accumulator updated at that head. -/
theorem hd0_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare acc
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (updH 0 x0 x1 x2 x3 x4 acc)) -∗ K ⟨⟩))
      ⊢ wp frame (wpE (defs₀ (F := F)) Variants.none c none) E (hd0 i arg2 harg2 arg3 harg3 arg4 harg4 arg5 harg5 arg6 harg6 arg7 harg7 arg8 harg8 arg9 harg9 arg10 harg10 arg11 harg11) K := by
  unfold hd0
  simp only [k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg5.eq_unread hf0; obtain rfl := harg6.eq_unread hf1; obtain rfl := harg7.eq_unread hf2; obtain rfl := harg8.eq_unread hf3; obtain rfl := harg9.eq_unread hf4; obtain rfl := harg11.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  iexists _
  isplitr
  swap
  · iexact HS0
  ipureintro
  sl_unfold_run_names
  refine read_head arg11.view _ 0 x0 x1 x2 x3 x4 acc hfs _ ?_
  simp only [View.readAt_eq_ld, Memref.IsWhole.read_unread]
  rfl

set_option maxHeartbeats 1000000 in
/-- The off-diagonal block of head 1 leaves the accumulator updated at that head. -/
theorem hd1_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare acc
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (updH 1 x0 x1 x2 x3 x4 acc)) -∗ K ⟨⟩))
      ⊢ wp frame (wpE (defs₀ (F := F)) Variants.none c none) E (hd1 i arg2 harg2 arg3 harg3 arg4 harg4 arg5 harg5 arg6 harg6 arg7 harg7 arg8 harg8 arg9 harg9 arg10 harg10 arg11 harg11) K := by
  unfold hd1
  simp only [k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg5.eq_unread hf0; obtain rfl := harg6.eq_unread hf1; obtain rfl := harg7.eq_unread hf2; obtain rfl := harg8.eq_unread hf3; obtain rfl := harg9.eq_unread hf4; obtain rfl := harg11.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  iexists _
  isplitr
  swap
  · iexact HS0
  ipureintro
  sl_unfold_run_names
  refine read_head arg11.view _ 1 x0 x1 x2 x3 x4 acc hfs _ ?_
  simp only [View.readAt_eq_ld, Memref.IsWhole.read_unread]
  rfl

set_option maxHeartbeats 1000000 in
/-- The off-diagonal block of head 2 leaves the accumulator updated at that head. -/
theorem hd2_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare acc
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (updH 2 x0 x1 x2 x3 x4 acc)) -∗ K ⟨⟩))
      ⊢ wp frame (wpE (defs₀ (F := F)) Variants.none c none) E (hd2 i arg2 harg2 arg3 harg3 arg4 harg4 arg5 harg5 arg6 harg6 arg7 harg7 arg8 harg8 arg9 harg9 arg10 harg10 arg11 harg11) K := by
  unfold hd2
  simp only [k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg5.eq_unread hf0; obtain rfl := harg6.eq_unread hf1; obtain rfl := harg7.eq_unread hf2; obtain rfl := harg8.eq_unread hf3; obtain rfl := harg9.eq_unread hf4; obtain rfl := harg11.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  iexists _
  isplitr
  swap
  · iexact HS0
  ipureintro
  sl_unfold_run_names
  refine read_head arg11.view _ 2 x0 x1 x2 x3 x4 acc hfs _ ?_
  simp only [View.readAt_eq_ld, Memref.IsWhole.read_unread]
  rfl

set_option maxHeartbeats 1000000 in
/-- The off-diagonal block of head 3 leaves the accumulator updated at that head. -/
theorem hd3_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare acc
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (updH 3 x0 x1 x2 x3 x4 acc)) -∗ K ⟨⟩))
      ⊢ wp frame (wpE (defs₀ (F := F)) Variants.none c none) E (hd3 i arg2 harg2 arg3 harg3 arg4 harg4 arg5 harg5 arg6 harg6 arg7 harg7 arg8 harg8 arg9 harg9 arg10 harg10 arg11 harg11) K := by
  unfold hd3
  simp only [k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg5.eq_unread hf0; obtain rfl := harg6.eq_unread hf1; obtain rfl := harg7.eq_unread hf2; obtain rfl := harg8.eq_unread hf3; obtain rfl := harg9.eq_unread hf4; obtain rfl := harg11.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  iexists _
  isplitr
  swap
  · iexact HS0
  ipureintro
  sl_unfold_run_names
  refine read_head arg11.view _ 3 x0 x1 x2 x3 x4 acc hfs _ ?_
  simp only [View.readAt_eq_ld, Memref.IsWhole.read_unread]
  rfl

set_option maxHeartbeats 1000000 in
/-- The diagonal block leaves every row chunk of every head updated under the causal mask. -/
theorem dg_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare acc
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (updD x0 x1 x2 x3 x4 acc)) -∗ K ⟨⟩))
      ⊢ wp frame (wpE (defs₀ (F := F)) Variants.none c none) E (dg i arg2 harg2 arg3 harg3 arg4 harg4 arg5 harg5 arg6 harg6 arg7 harg7 arg8 harg8 arg9 harg9 arg10 harg10 arg11 harg11) K := by
  unfold dg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg5.eq_unread hf0; obtain rfl := harg6.eq_unread hf1; obtain rfl := harg7.eq_unread hf2; obtain rfl := harg8.eq_unread hf3; obtain rfl := harg9.eq_unread hf4; obtain rfl := harg11.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  iexists _
  isplitr
  swap
  · iexact HS0
  ipureintro
  sl_unfold_run_names
  refine read_diag arg11.view _ x0 x1 x2 x3 x4 acc _ ?_
  simp only [View.readAt_eq_ld, Memref.IsWhole.read_unread]
  rfl

set_option maxHeartbeats 1000000 in
/-- The clearing block leaves the accumulator zero. -/
theorem zr_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare acc
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (k0_pay78)) -∗ K ⟨⟩))
      ⊢ wp frame (wpE (defs₀ (F := F)) Variants.none c none) E (zr i arg2 harg2 arg3 harg3 arg4 harg4 arg5 harg5 arg6 harg6 arg7 harg7 arg8 harg8 arg9 harg9 arg10 harg10 arg11 harg11) K := by
  unfold zr
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg5.eq_unread hf0; obtain rfl := harg6.eq_unread hf1; obtain rfl := harg7.eq_unread hf2; obtain rfl := harg8.eq_unread hf3; obtain rfl := harg9.eq_unread hf4; obtain rfl := harg11.eq_unread hfs
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  iexists _
  isplitr
  swap
  · iexact HS0
  ipureintro
  sl_unfold_run_names
  exact View.read_writes_full arg11.view _ _ _ _

set_option maxHeartbeats 1000000 in
/-- The last block leaves the quotients in the output. -/
theorem fin_run (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (acc : Vec F S4x1024x256 .f32) (y : Vec F S1024x512 .bf16) (E : Set ℕ) (K : PUnit → sProp 𝕄) :
    iprop(owns (c : Thread nD τ) arg10 fullShare y ∗ owns (c : Thread nD τ) arg11 fullShare acc ∗ (iprop(owns (c : Thread nD τ) arg10 fullShare (outF acc) ∗ owns (c : Thread nD τ) arg11 fullShare acc) -∗ K ⟨⟩))
      ⊢ wp frame (wpE (defs₀ (F := F)) Variants.none c none) E (fin i arg2 harg2 arg3 harg3 arg4 harg4 arg5 harg5 arg6 harg6 arg7 harg7 arg8 harg8 arg9 harg9 arg10 harg10 arg11 harg11) K := by
  unfold fin
  simp only [k0_part28_eq_skeleton]
  unfold owns
  iintro ⟨⟨%f5, %hf5, H5⟩, ⟨%fs0, %hfs, HS0⟩, Hk⟩
  obtain rfl := harg11.eq_unread hfs
  sl_exec
  sl_step
  iapply Hk
  isplitl [H5]
  · iexists _
    isplitr
    swap
    · iexact H5
    ipureintro
    sl_unfold_run_names
    refine read_out arg10.view _ acc _ ?_
    simp only [View.readAt_eq_ld, Memref.IsWhole.read_unread]
    rfl
  iexists _; isplitr; · ipureintro; exact harg11.read_unread _
  iexact HS0

end Cert.KernelIdeal.Gen

end
-- ==== Proof.IBody.lean ====
module

public import proofs.«01_k».proof.Proof.IBlocks
public import proofs.«01_k».proof.Proof.Gen.KernelIdeal.Skeleton
public import Idealize.ShloMosaic.Lib.Pipeline.Kit
public import Idealize.ShloMosaic.Lib.Pipeline.FrameBody
public import Idealize.ShloMosaic.Lib.Pipeline.ReadBack
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The prefetched tables as the body reads them -/

/-- Each table as the body is handed it: its whole buffer. -/
abbrev tbM0_0 : Memref sig .tc .smem S36 .i32 := Memref.whole main_c
abbrev htbM0_0 : tbM0_0.IsWhole := Memref.isWhole_whole _
abbrev tbM0_1 : Memref sig .tc .smem S36 .i32 := Memref.whole main_c_0
abbrev htbM0_1 : tbM0_1.IsWhole := Memref.isWhole_whole _
abbrev tbM0_2 : Memref sig .tc .smem S16x36 .i32 := Memref.whole main_arg5
abbrev htbM0_2 : tbM0_2.IsWhole := Memref.isWhole_whole _

/-- A table's contents on a core. -/
abbrev TbBuf0 (c : Dev nD) {S : Shape} {e : EltTy} (M : Memref sig .tc .smem S e) : Type := Buf (Elt F) (M.view.loc (c : Thread nD τ))

/-- A table held at half the full share, as the pipeline lends it to the body. -/
abbrev tbPt0 (c : Dev nD) {S : Shape} {e : EltTy} (M : Memref sig .tc .smem S e) (f : TbBuf0 (F := F) c M) : sProp 𝕄 :=
  M.view.loc (c : Thread nD τ) ↦{fullShare.right} f

/-! ## What one grid point computes -/

/-- The condition of the diagonal blocks: key block `w3` is query block `w1`. -/
abbrev isDiag (w1 w3 : BitVec 32) : Prop := Scalar.cmpi .ne (Scalar.extui (Scalar.cmpi .eq w3 w1) : BitVec 32) 0#32 = 1#1

/-- The condition of an off-diagonal block: the key block is another one and the pair is not flagged. -/
abbrev isLive (w1 w3 s : BitVec 32) : Prop :=
  Scalar.cmpi .ne (Scalar.extui (Scalar.andi (Scalar.cmpi .ne w3 w1) (Scalar.cmpi .eq s 0#32)) : BitVec 32) 0#32 = 1#1

/-- The accumulator after the clearing block. -/
def accZ (w1 w3 : BitVec 32) (acc : Vec F S4x1024x256 .f32) : Vec F S4x1024x256 .f32 :=
  if isDiag w1 w3 then k0_pay78 else acc

/-- The accumulator after the diagonal block. -/
def accD (w1 w3 : BitVec 32) (x0 x1 x2 : Vec F S1024x512 .bf16) (x3 : Vec F S4x1024x1 .f32) (x4 : Vec F S4x1x1024 .f32) (acc : Vec F S4x1024x256 .f32) :
    Vec F S4x1024x256 .f32 :=
  if isDiag w1 w3 then updD x0 x1 x2 x3 x4 acc else acc

/-- The accumulator after head `h`'s off-diagonal block. -/
def accH (h : Fin 4) (w1 w3 s : BitVec 32) (x0 x1 x2 : Vec F S1024x512 .bf16) (x3 : Vec F S4x1024x1 .f32) (x4 : Vec F S4x1x1024 .f32) (acc : Vec F S4x1024x256 .f32) :
    Vec F S4x1024x256 .f32 :=
  if isLive w1 w3 s then updH h x0 x1 x2 x3 x4 acc else acc

/-- The accumulator after one grid point. -/
def accPt (w1 w3 s0 s1 s2 s3 : BitVec 32) (x0 x1 x2 : Vec F S1024x512 .bf16) (x3 : Vec F S4x1024x1 .f32) (x4 : Vec F S4x1x1024 .f32) (acc : Vec F S4x1024x256 .f32) :
    Vec F S4x1024x256 .f32 :=
  accH 3 w1 w3 s3 x0 x1 x2 x3 x4 (accH 2 w1 w3 s2 x0 x1 x2 x3 x4 (accH 1 w1 w3 s1 x0 x1 x2 x3 x4 (accH 0 w1 w3 s0 x0 x1 x2 x3 x4 (accD w1 w3 x0 x1 x2 x3 x4 (accZ w1 w3 acc)))))

/-- The output block after one grid point. -/
def outPt (w3 : BitVec 32) (acc : Vec F S4x1024x256 .f32) (y : Vec F S1024x512 .bf16) : Vec F S1024x512 .bf16 :=
  if k0_cond7 w3 = 1#1 then outF acc else y

/-- The query block's word of the table, as the body reads it. -/
def rdQ (c : Dev nD) (i : grid0.Coords) (xt0 : TbBuf0 (F := F) c tbM0_0) : BitVec 32 := (tbM0_0.view.readAt (Elt F) (Rect.unit (s := S36) (k0_off1 i) S1.size (k0_off1_inb i)).toLoadRect xt0 (Shape.Idx.first (numel1_S1.symm ▸ Nat.one_pos)))

/-- The key block's word of the table, as the body reads it. -/
def rdK (c : Dev nD) (i : grid0.Coords) (xt1 : TbBuf0 (F := F) c tbM0_1) : BitVec 32 := (tbM0_1.view.readAt (Elt F) (Rect.unit (s := S36) (k0_off1 i) S1.size (k0_off1_inb i)).toLoadRect xt1 (Shape.Idx.first (numel1_S1.symm ▸ Nat.one_pos)))

/-- The flag of head 0 of the group, as the body reads it. -/
def rdS0 (c : Dev nD) (i : grid0.Coords) (xt2 : TbBuf0 (F := F) c tbM0_2) : BitVec 32 := (tbM0_2.view.readAt (Elt F) (Rect.unit (s := S16x36) (k0_off2 i) S1x1.size (k0_off2_inb i)).toLoadRect xt2 (Shape.Idx.first (numel1_S1x1.symm ▸ Nat.one_pos)))

/-- The flag of head 1 of the group, as the body reads it. -/
def rdS1 (c : Dev nD) (i : grid0.Coords) (xt2 : TbBuf0 (F := F) c tbM0_2) : BitVec 32 := (tbM0_2.view.readAt (Elt F) (Rect.unit (s := S16x36) (k0_off3 i) S1x1.size (k0_off3_inb i)).toLoadRect xt2 (Shape.Idx.first (numel1_S1x1.symm ▸ Nat.one_pos)))

/-- The flag of head 2 of the group, as the body reads it. -/
def rdS2 (c : Dev nD) (i : grid0.Coords) (xt2 : TbBuf0 (F := F) c tbM0_2) : BitVec 32 := (tbM0_2.view.readAt (Elt F) (Rect.unit (s := S16x36) (k0_off4 i) S1x1.size (k0_off4_inb i)).toLoadRect xt2 (Shape.Idx.first (numel1_S1x1.symm ▸ Nat.one_pos)))

/-- The flag of head 3 of the group, as the body reads it. -/
def rdS3 (c : Dev nD) (i : grid0.Coords) (xt2 : TbBuf0 (F := F) c tbM0_2) : BitVec 32 := (tbM0_2.view.readAt (Elt F) (Rect.unit (s := S16x36) (k0_off5 i) S1x1.size (k0_off5_inb i)).toLoadRect xt2 (Shape.Idx.first (numel1_S1x1.symm ▸ Nat.one_pos)))

/-- A block run under a condition. -/
def ifP (c : Prop) [Decidable c] (A : Prog (TpuEff nD τ sig (Elt F) Λ₀ .tc) PUnit) : Prog (TpuEff nD τ sig (Elt F) Λ₀ .tc) PUnit :=
  if c then A else pure ⟨⟩

/-- A conditional block before the rest of a program is a choice between the block before the rest and the rest. -/
theorem ifP_bind {α : Type} (c : Prop) [Decidable c] (A : Prog (TpuEff nD τ sig (Elt F) Λ₀ .tc) PUnit) (k : PUnit → Prog (TpuEff nD τ sig (Elt F) Λ₀ .tc) α) :
    (ifP c A >>= k) = if c then A >>= k else k ⟨⟩ := by
  unfold ifP; split <;> simp only [pure_bind]

/-- The first part of the body as its conditional blocks in order. -/
def pre29 (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) : Prog (TpuEff nD τ sig (Elt F) Λ₀ .tc) (Σ' (arg0 : BitVec 32) (arg1 : BitVec 32) (v1 : Elt F .i32) (v3 : Elt F .i32), BitVec 1) := do
  let v1 : Elt F .i32 ← smemLoad arg2 (Rect.unit (s := S36) (k0_off1 i) S1.size (k0_off1_inb i)) numel1_S1 rfl
  let v3 : Elt F .i32 ← smemLoad arg3 (Rect.unit (s := S36) (k0_off1 i) S1.size (k0_off1_inb i)) numel1_S1 rfl
  ifP (isDiag v1 v3) (zr i arg2 harg2 arg3 harg3 arg4 harg4 arg5 harg5 arg6 harg6 arg7 harg7 arg8 harg8 arg9 harg9 arg10 harg10 arg11 harg11)
  ifP (isDiag v1 v3) (dg i arg2 harg2 arg3 harg3 arg4 harg4 arg5 harg5 arg6 harg6 arg7 harg7 arg8 harg8 arg9 harg9 arg10 harg10 arg11 harg11)
  let v14 : Elt F .i32 ← smemLoad arg4 (Rect.unit (s := S16x36) (k0_off2 i) S1x1.size (k0_off2_inb i)) numel1_S1x1 rfl
  ifP (isLive v1 v3 v14) (hd0 i arg2 harg2 arg3 harg3 arg4 harg4 arg5 harg5 arg6 harg6 arg7 harg7 arg8 harg8 arg9 harg9 arg10 harg10 arg11 harg11)
  let v24 : Elt F .i32 ← smemLoad arg4 (Rect.unit (s := S16x36) (k0_off3 i) S1x1.size (k0_off3_inb i)) numel1_S1x1 rfl
  ifP (isLive v1 v3 v24) (hd1 i arg2 harg2 arg3 harg3 arg4 harg4 arg5 harg5 arg6 harg6 arg7 harg7 arg8 harg8 arg9 harg9 arg10 harg10 arg11 harg11)
  let v34 : Elt F .i32 ← smemLoad arg4 (Rect.unit (s := S16x36) (k0_off4 i) S1x1.size (k0_off4_inb i)) numel1_S1x1 rfl
  pure ⟨BitVec.ofNat 32 (i 0).val, BitVec.ofNat 32 (i 1).val, v1, v3, Scalar.cmpi .ne (Scalar.extui (Scalar.andi (Scalar.cmpi .ne v3 v1) (Scalar.cmpi .eq v34 0#32)) : BitVec 32) 0#32⟩

set_option maxHeartbeats 4000000 in
/-- The printed first part is that program. -/
theorem part29_eq (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) : k0_part29 (F := F) i arg2 harg2 arg3 harg3 arg4 harg4 arg5 harg5 arg6 harg6 arg7 harg7 arg8 harg8 arg9 harg9 arg10 harg10 arg11 harg11 = pre29 i arg2 harg2 arg3 harg3 arg4 harg4 arg5 harg5 arg6 harg6 arg7 harg7 arg8 harg8 arg9 harg9 arg10 harg10 arg11 harg11 := by
  rw [k0_part29_eq_skeleton]
  unfold k0_part29_skel
  simp only [pre29, ifP_bind, zr, dg, hd0, hd1, bind_assoc, pure_bind, isDiag, isLive]

/-- The body as its conditional blocks in order. -/
def bodyP (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) : Prog (TpuEff nD τ sig (Elt F) Λ₀ .tc) PUnit := do
  let x ← pre29 i arg2 harg2 arg3 harg3 arg4 harg4 arg5 harg5 arg6 harg6 arg7 harg7 arg8 harg8 arg9 harg9 arg10 harg10 arg11 harg11
  ifP (x.2.2.2.2 = 1#1) (hd2 i arg2 harg2 arg3 harg3 arg4 harg4 arg5 harg5 arg6 harg6 arg7 harg7 arg8 harg8 arg9 harg9 arg10 harg10 arg11 harg11)
  let v44 : Elt F .i32 ← smemLoad arg4 (Rect.unit (s := S16x36) (k0_off5 i) S1x1.size (k0_off5_inb i)) numel1_S1x1 rfl
  ifP (isLive x.2.2.1 x.2.2.2.1 v44) (hd3 i arg2 harg2 arg3 harg3 arg4 harg4 arg5 harg5 arg6 harg6 arg7 harg7 arg8 harg8 arg9 harg9 arg10 harg10 arg11 harg11)
  ifP (k0_cond7 x.2.2.2.1 = 1#1) (fin i arg2 harg2 arg3 harg3 arg4 harg4 arg5 harg5 arg6 harg6 arg7 harg7 arg8 harg8 arg9 harg9 arg10 harg10 arg11 harg11)

set_option maxHeartbeats 4000000 in
/-- The printed body is that program. -/
theorem body_eq (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole) : cc0_fox_attention_shift (F := F) i arg2 harg2 arg3 harg3 arg4 harg4 arg5 harg5 arg6 harg6 arg7 harg7 arg8 harg8 arg9 harg9 arg10 harg10 arg11 harg11 = bodyP i arg2 harg2 arg3 harg3 arg4 harg4 arg5 harg5 arg6 harg6 arg7 harg7 arg8 harg8 arg9 harg9 arg10 harg10 arg11 harg11 := by
  rw [cc0_fox_attention_shift_eq_skeleton]
  unfold cc0_fox_attention_shift_skel
  simp only [part29_eq, bodyP, ifP_bind, hd2, hd3, bind_assoc, pure_bind, isLive]
  simp only [ifP, fin, bind_assoc, pure_bind, dite_eq_ite]

/-- The clearing block under its condition. -/
theorem zr_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (q : Prop) [Decidable q] (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (acc) ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (if q then k0_pay78 else acc)) -∗ K ⟨⟩))
      ⊢ wp frame (wpE (defs₀ (F := F)) Variants.none c none) E (if q then zr i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact zr_run c i arg2 harg2 arg3 harg3 arg4 harg4 arg5 harg5 arg6 harg6 arg7 harg7 arg8 harg8 arg9 harg9 arg10 harg10 arg11 harg11 x0 x1 x2 x3 x4 acc E K
  · rw [if_neg hq, if_neg hq]
    iintro ⟨H0, H1, H2, H3, H4, H11, Hk⟩
    sl_step
    iapply Hk
    isplitl [H0]; · iexact H0
    isplitl [H1]; · iexact H1
    isplitl [H2]; · iexact H2
    isplitl [H3]; · iexact H3
    isplitl [H4]; · iexact H4
    iexact H11

/-- The diagonal block under its condition. -/
theorem dg_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (q : Prop) [Decidable q] (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (acc) ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (if q then updD x0 x1 x2 x3 x4 acc else acc)) -∗ K ⟨⟩))
      ⊢ wp frame (wpE (defs₀ (F := F)) Variants.none c none) E (if q then dg i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact dg_run c i arg2 harg2 arg3 harg3 arg4 harg4 arg5 harg5 arg6 harg6 arg7 harg7 arg8 harg8 arg9 harg9 arg10 harg10 arg11 harg11 x0 x1 x2 x3 x4 acc E K
  · rw [if_neg hq, if_neg hq]
    iintro ⟨H0, H1, H2, H3, H4, H11, Hk⟩
    sl_step
    iapply Hk
    isplitl [H0]; · iexact H0
    isplitl [H1]; · iexact H1
    isplitl [H2]; · iexact H2
    isplitl [H3]; · iexact H3
    isplitl [H4]; · iexact H4
    iexact H11

/-- The off-diagonal block of head 0 under its condition. -/
theorem hd0_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (q : Prop) [Decidable q] (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (acc) ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (if q then updH 0 x0 x1 x2 x3 x4 acc else acc)) -∗ K ⟨⟩))
      ⊢ wp frame (wpE (defs₀ (F := F)) Variants.none c none) E (if q then hd0 i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact hd0_run c i arg2 harg2 arg3 harg3 arg4 harg4 arg5 harg5 arg6 harg6 arg7 harg7 arg8 harg8 arg9 harg9 arg10 harg10 arg11 harg11 x0 x1 x2 x3 x4 acc E K
  · rw [if_neg hq, if_neg hq]
    iintro ⟨H0, H1, H2, H3, H4, H11, Hk⟩
    sl_step
    iapply Hk
    isplitl [H0]; · iexact H0
    isplitl [H1]; · iexact H1
    isplitl [H2]; · iexact H2
    isplitl [H3]; · iexact H3
    isplitl [H4]; · iexact H4
    iexact H11

/-- The off-diagonal block of head 1 under its condition. -/
theorem hd1_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (q : Prop) [Decidable q] (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (acc) ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (if q then updH 1 x0 x1 x2 x3 x4 acc else acc)) -∗ K ⟨⟩))
      ⊢ wp frame (wpE (defs₀ (F := F)) Variants.none c none) E (if q then hd1 i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact hd1_run c i arg2 harg2 arg3 harg3 arg4 harg4 arg5 harg5 arg6 harg6 arg7 harg7 arg8 harg8 arg9 harg9 arg10 harg10 arg11 harg11 x0 x1 x2 x3 x4 acc E K
  · rw [if_neg hq, if_neg hq]
    iintro ⟨H0, H1, H2, H3, H4, H11, Hk⟩
    sl_step
    iapply Hk
    isplitl [H0]; · iexact H0
    isplitl [H1]; · iexact H1
    isplitl [H2]; · iexact H2
    isplitl [H3]; · iexact H3
    isplitl [H4]; · iexact H4
    iexact H11

/-- The off-diagonal block of head 2 under its condition. -/
theorem hd2_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (q : Prop) [Decidable q] (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (acc) ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (if q then updH 2 x0 x1 x2 x3 x4 acc else acc)) -∗ K ⟨⟩))
      ⊢ wp frame (wpE (defs₀ (F := F)) Variants.none c none) E (if q then hd2 i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact hd2_run c i arg2 harg2 arg3 harg3 arg4 harg4 arg5 harg5 arg6 harg6 arg7 harg7 arg8 harg8 arg9 harg9 arg10 harg10 arg11 harg11 x0 x1 x2 x3 x4 acc E K
  · rw [if_neg hq, if_neg hq]
    iintro ⟨H0, H1, H2, H3, H4, H11, Hk⟩
    sl_step
    iapply Hk
    isplitl [H0]; · iexact H0
    isplitl [H1]; · iexact H1
    isplitl [H2]; · iexact H2
    isplitl [H3]; · iexact H3
    isplitl [H4]; · iexact H4
    iexact H11

/-- The off-diagonal block of head 3 under its condition. -/
theorem hd3_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (q : Prop) [Decidable q] (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (acc) ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg11 fullShare (if q then updH 3 x0 x1 x2 x3 x4 acc else acc)) -∗ K ⟨⟩))
      ⊢ wp frame (wpE (defs₀ (F := F)) Variants.none c none) E (if q then hd3 i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact hd3_run c i arg2 harg2 arg3 harg3 arg4 harg4 arg5 harg5 arg6 harg6 arg7 harg7 arg8 harg8 arg9 harg9 arg10 harg10 arg11 harg11 x0 x1 x2 x3 x4 acc E K
  · rw [if_neg hq, if_neg hq]
    iintro ⟨H0, H1, H2, H3, H4, H11, Hk⟩
    sl_step
    iapply Hk
    isplitl [H0]; · iexact H0
    isplitl [H1]; · iexact H1
    isplitl [H2]; · iexact H2
    isplitl [H3]; · iexact H3
    isplitl [H4]; · iexact H4
    iexact H11

/-- The last block under its condition. -/
theorem fin_step (c : Dev nD) (i : grid0.Coords) (arg2 : Memref sig .tc .smem S36 .i32) (harg2 : arg2.IsWhole) (arg3 : Memref sig .tc .smem S36 .i32) (harg3 : arg3.IsWhole) (arg4 : Memref sig .tc .smem S16x36 .i32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (acc : Vec F S4x1024x256 .f32) (y : Vec F S1024x512 .bf16) (q : Prop) [Decidable q] (E : Set ℕ) (K : PUnit → sProp 𝕄) :
    iprop(owns (c : Thread nD τ) arg10 fullShare y ∗ owns (c : Thread nD τ) arg11 fullShare (acc) ∗ (iprop(owns (c : Thread nD τ) arg10 fullShare (if q then outF acc else y) ∗ owns (c : Thread nD τ) arg11 fullShare (acc)) -∗ K ⟨⟩))
      ⊢ wp frame (wpE (defs₀ (F := F)) Variants.none c none) E (if q then fin i arg2 harg2 arg3 harg3 arg4 harg4 arg5 harg5 arg6 harg6 arg7 harg7 arg8 harg8 arg9 harg9 arg10 harg10 arg11 harg11 else pure ⟨⟩) K := by
  by_cases hq : q
  · rw [if_pos hq, if_pos hq]
    exact fin_run c i arg2 harg2 arg3 harg3 arg4 harg4 arg5 harg5 arg6 harg6 arg7 harg7 arg8 harg8 arg9 harg9 arg10 harg10 arg11 harg11 acc y E K
  · rw [if_neg hq, if_neg hq]
    iintro ⟨H5, H11, Hk⟩
    sl_step
    iapply Hk
    isplitl [H5]; · iexact H5
    iexact H11

set_option maxHeartbeats 400000 in
/-- One grid point's body: the operands' blocks and the tables come back as they were, the accumulator and the output block updated. -/
theorem body_run (c : Dev nD) (i : grid0.Coords) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S4x1024x1 .f32) (harg8 : arg8.IsWhole) (arg9 : Memref sig .tc .vmem S4x1x1024 .f32) (harg9 : arg9.IsWhole) (arg10 : Memref sig .tc .vmem S1024x512 .bf16) (harg10 : arg10.IsWhole) (arg11 : Memref sig .tc .vmem S4x1024x256 .f32) (harg11 : arg11.IsWhole)
    (x0 : Vec F S1024x512 .bf16) (x1 : Vec F S1024x512 .bf16) (x2 : Vec F S1024x512 .bf16) (x3 : Vec F S4x1024x1 .f32) (x4 : Vec F S4x1x1024 .f32) (acc : Vec F S4x1024x256 .f32) (y : Vec F S1024x512 .bf16) (xt0 : TbBuf0 (F := F) c tbM0_0) (xt1 : TbBuf0 (F := F) c tbM0_1) (xt2 : TbBuf0 (F := F) c tbM0_2)
    (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare y ∗ owns (c : Thread nD τ) arg11 fullShare (acc) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (outPt (rdK c i xt1) (accPt (rdQ c i xt0) (rdK c i xt1) (rdS0 c i xt2) (rdS1 c i xt2) (rdS2 c i xt2) (rdS3 c i xt2) x0 x1 x2 x3 x4 acc) y) ∗ owns (c : Thread nD τ) arg11 fullShare (accPt (rdQ c i xt0) (rdK c i xt1) (rdS0 c i xt2) (rdS1 c i xt2) (rdS2 c i xt2) (rdS3 c i xt2) x0 x1 x2 x3 x4 acc) ∗ tbPt0 c tbM0_0 xt0 ∗ tbPt0 c tbM0_1 xt1 ∗ tbPt0 c tbM0_2 xt2) -∗ K ⟨⟩))
      ⊢ wp frame (wpE (defs₀ (F := F)) Variants.none c none) E (cc0_fox_attention_shift i tbM0_0 htbM0_0 tbM0_1 htbM0_1 tbM0_2 htbM0_2 arg5 harg5 arg6 harg6 arg7 harg7 arg8 harg8 arg9 harg9 arg10 harg10 arg11 harg11) K := by
  rw [body_eq]
  unfold bodyP pre29
  iintro ⟨H0, H1, H2, H3, H4, H5, HS0, HT0, HT1, HT2, Hk⟩
  sl_exec
  iapply (zr_step c i tbM0_0 htbM0_0 tbM0_1 htbM0_1 tbM0_2 htbM0_2 arg5 harg5 arg6 harg6 arg7 harg7 arg8 harg8 arg9 harg9 arg10 harg10 arg11 harg11 x0 x1 x2 x3 x4 acc (isDiag (rdQ c i xt0) (rdK c i xt1)) E)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  sl_exec
  iapply (dg_step c i tbM0_0 htbM0_0 tbM0_1 htbM0_1 tbM0_2 htbM0_2 arg5 harg5 arg6 harg6 arg7 harg7 arg8 harg8 arg9 harg9 arg10 harg10 arg11 harg11 x0 x1 x2 x3 x4 (accZ (rdQ c i xt0) (rdK c i xt1) acc) (isDiag (rdQ c i xt0) (rdK c i xt1)) E)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  sl_exec
  iapply (hd0_step c i tbM0_0 htbM0_0 tbM0_1 htbM0_1 tbM0_2 htbM0_2 arg5 harg5 arg6 harg6 arg7 harg7 arg8 harg8 arg9 harg9 arg10 harg10 arg11 harg11 x0 x1 x2 x3 x4 (accD (rdQ c i xt0) (rdK c i xt1) x0 x1 x2 x3 x4 (accZ (rdQ c i xt0) (rdK c i xt1) acc)) (isLive (rdQ c i xt0) (rdK c i xt1) (rdS0 c i xt2)) E)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  sl_exec
  iapply (hd1_step c i tbM0_0 htbM0_0 tbM0_1 htbM0_1 tbM0_2 htbM0_2 arg5 harg5 arg6 harg6 arg7 harg7 arg8 harg8 arg9 harg9 arg10 harg10 arg11 harg11 x0 x1 x2 x3 x4 (accH 0 (rdQ c i xt0) (rdK c i xt1) (rdS0 c i xt2) x0 x1 x2 x3 x4 (accD (rdQ c i xt0) (rdK c i xt1) x0 x1 x2 x3 x4 (accZ (rdQ c i xt0) (rdK c i xt1) acc))) (isLive (rdQ c i xt0) (rdK c i xt1) (rdS1 c i xt2)) E)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  sl_exec
  iapply (hd2_step c i tbM0_0 htbM0_0 tbM0_1 htbM0_1 tbM0_2 htbM0_2 arg5 harg5 arg6 harg6 arg7 harg7 arg8 harg8 arg9 harg9 arg10 harg10 arg11 harg11 x0 x1 x2 x3 x4 (accH 1 (rdQ c i xt0) (rdK c i xt1) (rdS1 c i xt2) x0 x1 x2 x3 x4 (accH 0 (rdQ c i xt0) (rdK c i xt1) (rdS0 c i xt2) x0 x1 x2 x3 x4 (accD (rdQ c i xt0) (rdK c i xt1) x0 x1 x2 x3 x4 (accZ (rdQ c i xt0) (rdK c i xt1) acc)))) (isLive (rdQ c i xt0) (rdK c i xt1) (rdS2 c i xt2)) E)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  sl_exec
  iapply (hd3_step c i tbM0_0 htbM0_0 tbM0_1 htbM0_1 tbM0_2 htbM0_2 arg5 harg5 arg6 harg6 arg7 harg7 arg8 harg8 arg9 harg9 arg10 harg10 arg11 harg11 x0 x1 x2 x3 x4 (accH 2 (rdQ c i xt0) (rdK c i xt1) (rdS2 c i xt2) x0 x1 x2 x3 x4 (accH 1 (rdQ c i xt0) (rdK c i xt1) (rdS1 c i xt2) x0 x1 x2 x3 x4 (accH 0 (rdQ c i xt0) (rdK c i xt1) (rdS0 c i xt2) x0 x1 x2 x3 x4 (accD (rdQ c i xt0) (rdK c i xt1) x0 x1 x2 x3 x4 (accZ (rdQ c i xt0) (rdK c i xt1) acc))))) (isLive (rdQ c i xt0) (rdK c i xt1) (rdS3 c i xt2)) E)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  unfold ifP
  iapply (fin_step c i tbM0_0 htbM0_0 tbM0_1 htbM0_1 tbM0_2 htbM0_2 arg5 harg5 arg6 harg6 arg7 harg7 arg8 harg8 arg9 harg9 arg10 harg10 arg11 harg11 (accH 3 (rdQ c i xt0) (rdK c i xt1) (rdS3 c i xt2) x0 x1 x2 x3 x4 (accH 2 (rdQ c i xt0) (rdK c i xt1) (rdS2 c i xt2) x0 x1 x2 x3 x4 (accH 1 (rdQ c i xt0) (rdK c i xt1) (rdS1 c i xt2) x0 x1 x2 x3 x4 (accH 0 (rdQ c i xt0) (rdK c i xt1) (rdS0 c i xt2) x0 x1 x2 x3 x4 (accD (rdQ c i xt0) (rdK c i xt1) x0 x1 x2 x3 x4 (accZ (rdQ c i xt0) (rdK c i xt1) acc)))))) y (k0_cond7 (rdK c i xt1) = 1#1) E K)
  isplitl [H5]; · iexact H5
  isplitl [HS0]; · iexact HS0
  iintro ⟨H5, HS0⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HT0]; · iexact HT0
  isplitl [HT1]; · iexact HT1
  iexact HT2

end Cert.KernelIdeal.Gen

end
-- ==== Proof.IKit.lean ====
module

public import proofs.«01_k».proof.Proof.IBody
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.ReadBack
public import Idealize.ShloMosaic.Lib.WritesUnit
public import Idealize.ShloMosaic.Lib.VecWindow
public import Idealize.ShloMosaic.Lib.Ring
public import Idealize.ShloMosaic.Lib.Tactic
public import Idealize.ShloMosaic.Lib.StableHlo.RunRead
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 1).trans (((dats 0 c).arrAt_in 1 rfl _).trans ((hA c 1).trans (V_main_arg0 m c))),
      ((h c).1 2).trans (((dats 0 c).arrAt_in 2 rfl _).trans ((hA c 2).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- Each window's current staging memref at point `t`, spelled as the pipeline passes it (`bodyAt0`), and its wholeness. -/
abbrev ms0_0 (hO : Ok m) (t : Fin (cfgM m hO).N) : Memref sig .tc .vmem S1024x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x1024x1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x512 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S4x1024x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The tables are the constants of the program -/

/-- The table of query blocks is the first constant. -/
theorem tbl_q : tbl m 0 = (fun i => lit0 (S36.rowMajor i)) := by
  show StableHlo.after hostOps0 (fun b => m ((0 : Dev nD), b)) main_c = _
  unfold hostOps0
  after_reads_simp
  rfl

/-- The table of key blocks is the second constant. -/
theorem tbl_k : tbl m 1 = (fun i => lit1 (S36.rowMajor i)) := by
  show StableHlo.after hostOps0 (fun b => m ((0 : Dev nD), b)) main_c_0 = _
  unfold hostOps0
  after_reads_simp
  rfl

/-- The table of flags is the argument. -/
theorem tbl_s : tbl m 2 = m (((0 : Dev nD) : Thread nD τ).loc main_arg5) := V_main_arg5 m 0

/-- The offset at which the tables of pairs are read is the pair's number. -/
theorem off1_val (i : grid0.Coords) (a : Fin 1) : k0_off1 i a = (i 1).val := by
  have h : ∀ q : Fin 36, (BitVec.ofNat 32 q.val).toNat = q.val := by decide +kernel
  have := h (i 1)
  fin_cases a
  unfold k0_off1
  exact this

/-- The one element read at that offset is the pair's. -/
theorem off1_idx (i : grid0.Coords) (j : S1.Idx) :
    S36.rowMajor ((Rect.unit (s := S36) (k0_off1 i) S1.size (k0_off1_inb i)).toLoadRect.idx j) = (i 1 : Fin 36) := by
  have h : ∀ q : Fin 36, (S36.rowMajor (fun a => match a with | ⟨0, _⟩ => q : S36.Idx)).val = q.val := by decide +kernel
  have e : ((Rect.unit (s := S36) (k0_off1 i) S1.size (k0_off1_inb i)).toLoadRect.idx j) = (fun a => match a with | ⟨0, _⟩ => (i 1 : Fin 36)) := by
    funext a
    obtain rfl : a = 0 := Subsingleton.elim _ _
    apply Fin.ext
    have hj : (j 0).val = 0 := Nat.lt_one_iff.mp (j 0).isLt
    show k0_off1 i 0 + 1 * (j 0).val = (i 1).val
    rw [off1_val, hj]; omega
  rw [e]; exact Fin.ext (h (i 1))

/-- The query block's word is the first constant at the pair. -/
theorem rdQ_eq (c : Dev nD) (i : grid0.Coords) : rdQ c i (tbl m 0) = lit0 (i 1) := by
  rw [tbl_q]
  unfold rdQ
  rw [View.readAt_eq_ld]
  exact congrArg lit0 (off1_idx i _)

/-- The key block's word is the second constant at the pair. -/
theorem rdK_eq (c : Dev nD) (i : grid0.Coords) : rdK c i (tbl m 1) = lit1 (i 1) := by
  rw [tbl_k]
  unfold rdK
  rw [View.readAt_eq_ld]
  exact congrArg lit1 (off1_idx i _)

end Cert.KernelIdeal.Gen

end
-- ==== Proof.IData.lean ====
module

public import proofs.«01_k».proof.Proof.IKit
public import Idealize.ShloMosaic.Lib.Claim
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.ReadBack
public import Idealize.ShloMosaic.Lib.WritesUnit
public import Idealize.ShloMosaic.Lib.VecWindow
public import Idealize.ShloMosaic.Lib.Ring
public import Idealize.ShloMosaic.Lib.Tactic
public import Idealize.ShloMosaic.Lib.StableHlo.RunRead
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pairs of blocks -/

/-- The query block of pair `p`. -/
def qB (p : Fin 36) : ℕ := (lit0 p).toNat

/-- The key block of pair `p`. -/
def kB (p : Fin 36) : ℕ := (lit1 p).toNat

theorem word0 (q : Fin 4) : (Scalar.addi 0#32 (BitVec.ofNat 32 q.val)).toNat = q.val := by revert q; decide +kernel
theorem word4 (q : Fin 4) : (Scalar.addi 4#32 (BitVec.ofNat 32 q.val)).toNat = 4 + q.val := by revert q; decide +kernel
theorem wordn (q : Fin 4) : (BitVec.ofNat 32 q.val).toNat = q.val := by revert q; decide +kernel

theorem at_q (i : grid0.Coords) : (tbl m).at 0 (Rect.unit (s := S36) (k0_off1 i) S1.size (k0_off1_inb i)) numel1_S1 = lit0 (i 1) := by
  show tbl m 0 _ = _
  rw [tbl_q]
  exact congrArg lit0 (off1_idx i _)

theorem at_k (i : grid0.Coords) : (tbl m).at 1 (Rect.unit (s := S36) (k0_off1 i) S1.size (k0_off1_inb i)) numel1_S1 = lit1 (i 1) := by
  show tbl m 1 _ = _
  rw [tbl_k]
  exact congrArg lit1 (off1_idx i _)

/-- Window 0 is on the query block's rows and the head group's columns. -/
theorem tr0 (i : grid0.Coords) : cc0_transform_0 k0_off1_inb numel1_S1 (tbl m) i = ![qB (i 1), (i 0).val] := by
  have h := congrArg BitVec.toNat (at_q m i)
  funext a
  match a with
  | ⟨0, _⟩ => exact h
  | ⟨1, _⟩ => exact word0 (i 0)

/-- Window 1 is on the key block's rows and the head group's columns past the queries'. -/
theorem tr1 (i : grid0.Coords) : cc0_transform_1 k0_off1_inb numel1_S1 (tbl m) i = ![kB (i 1), 4 + (i 0).val] := by
  have h := congrArg BitVec.toNat (at_k m i)
  funext a
  match a with
  | ⟨0, _⟩ => exact h
  | ⟨1, _⟩ => exact word4 (i 0)

/-- Window 2 is on the key block's rows of the values. -/
theorem tr2 (i : grid0.Coords) : cc0_transform_2 k0_off1_inb numel1_S1 (tbl m) i = ![kB (i 1), (i 0).val] := by
  have h := congrArg BitVec.toNat (at_k m i)
  funext a
  match a with
  | ⟨0, _⟩ => exact h
  | ⟨1, _⟩ => exact word0 (i 0)

/-- Window 3 is on the query block's gates' sums. -/
theorem tr3 (i : grid0.Coords) : cc0_transform_3 k0_off1_inb numel1_S1 (tbl m) i = ![(i 0).val, qB (i 1), 0] := by
  have h := congrArg BitVec.toNat (at_q m i)
  funext a
  match a with
  | ⟨0, _⟩ => exact wordn (i 0)
  | ⟨1, _⟩ => exact h
  | ⟨2, _⟩ => rfl

/-- Window 4 is on the key block's gates' sums. -/
theorem tr4 (i : grid0.Coords) : cc0_transform_4 k0_off1_inb numel1_S1 (tbl m) i = ![(i 0).val, 0, kB (i 1)] := by
  have h := congrArg BitVec.toNat (at_k m i)
  funext a
  match a with
  | ⟨0, _⟩ => exact wordn (i 0)
  | ⟨1, _⟩ => rfl
  | ⟨2, _⟩ => exact h

/-- Window 5 is on the query block's rows of the output. -/
theorem tr5 (i : grid0.Coords) : cc0_transform_5 k0_off1_inb numel1_S1 (tbl m) i = ![qB (i 1), (i 0).val] := by
  have h := congrArg BitVec.toNat (at_q m i)
  funext a
  match a with
  | ⟨0, _⟩ => exact h
  | ⟨1, _⟩ => exact wordn (i 0)

/-- Every block is inside its array and its transfers end on whole words. -/
theorem ok_m : Ok m := by
  have h0 : ∀ (h : Fin 4) (p : Fin 36), ∃ hb : (∀ a, (![qB p, h.val] a + 1) * S1024x512.size a ≤ S8192x4096.size a), EltTy.bits .bf16 = 32 ∨ (Rect.block (s := S8192x4096) S1024x512.size ![qB p, h.val] hb).WholeWords (EltTy.packing .bf16) := by decide +kernel
  have h1 : ∀ (h : Fin 4) (p : Fin 36), ∃ hb : (∀ a, (![kB p, 4 + h.val] a + 1) * S1024x512.size a ≤ S8192x4096.size a), EltTy.bits .bf16 = 32 ∨ (Rect.block (s := S8192x4096) S1024x512.size ![kB p, 4 + h.val] hb).WholeWords (EltTy.packing .bf16) := by decide +kernel
  have h2 : ∀ (h : Fin 4) (p : Fin 36), ∃ hb : (∀ a, (![kB p, h.val] a + 1) * S1024x512.size a ≤ S8192x2048.size a), EltTy.bits .bf16 = 32 ∨ (Rect.block (s := S8192x2048) S1024x512.size ![kB p, h.val] hb).WholeWords (EltTy.packing .bf16) := by decide +kernel
  have h3 : ∀ (h : Fin 4) (p : Fin 36), (∀ a, (![h.val, qB p, 0] a + 1) * S4x1024x1.size a ≤ S16x8192x1.size a) := by decide +kernel
  have h4 : ∀ (h : Fin 4) (p : Fin 36), (∀ a, (![h.val, 0, kB p] a + 1) * S4x1x1024.size a ≤ S16x1x8192.size a) := by decide +kernel
  have h5 : ∀ (h : Fin 4) (p : Fin 36), ∃ hb : (∀ a, (![qB p, h.val] a + 1) * S1024x512.size a ≤ S8192x2048.size a), EltTy.bits .bf16 = 32 ∨ (Rect.block (s := S8192x2048) S1024x512.size ![qB p, h.val] hb).WholeWords (EltTy.packing .bf16) := by decide +kernel
  unfold Ok ok0
  refine ⟨fun i => ?_, fun i => ?_, fun i => ?_, fun i => ?_, fun i => ?_, fun i => ?_⟩
  · rw [tr0]; exact h0 (i 0) (i 1)
  · rw [tr1]; exact h1 (i 0) (i 1)
  · rw [tr2]; exact h2 (i 0) (i 1)
  · rw [tr3]; exact ⟨h3 (i 0) (i 1), Or.inl rfl⟩
  · rw [tr4]; exact ⟨h4 (i 0) (i 1), Or.inl rfl⟩
  · rw [tr5]; exact h5 (i 0) (i 1)

/-! ## Where the output's window is idle, and where it is written back -/

/-- The output's window is idle exactly where the key block is not the first. -/
theorem idle5 (hO : Ok m) (i : grid0.Coords) : (cfgM m hO).idle 5 i = !(k0_cond7 (lit1 (i 1)) == 1#1) := by
  have h : (tbl m).atD 1 (k0_off1 i) = lit1 (i 1) := by
    rw [← at_k m i]
    show (if h : _ then _ else _) = _
    split
    · next h => exact congrArg (tbl m 1) (by funext a; apply Fin.ext; exact (Nat.add_zero _).symm)
    · next h => exact (h fun a => match a with | ⟨0, _⟩ => k0_off1_inb i 0).elim
  show (!(k0_cond7 ((tbl m).atD 1 (k0_off1 i)) == 1#1)) = _
  rw [h]

/-- The pairs' order: at a pair whose key block is not the first, the next point is of the same query block and group. -/
theorem next_same : ∀ t : Fin grid0.N, k0_cond7 (lit1 (grid0.coords t 1)) ≠ 1#1 → t.val + 1 ≠ grid0.N ∧ ∀ h : t.val + 1 < grid0.N,
    qB (grid0.coords ⟨t.val + 1, h⟩ 1) = qB (grid0.coords t 1) ∧ (grid0.coords ⟨t.val + 1, h⟩ 0).val = (grid0.coords t 0).val := by decide +kernel

/-- The output's block index at a point. -/
theorem index5 (hO : Ok m) (t : Fin grid0.N) : ((cfgM m hO).win 5).index t = ![qB (grid0.coords t 1), (grid0.coords t 0).val] := tr5 m (grid0.coords t)

/-- Where the key block is not the first, the output is not written back. -/
theorem flush5_idle (hO : Ok m) (t : Fin (cfgM m hO).N) (h : k0_cond7 (lit1 (grid0.coords t 1)) ≠ 1#1) : ((cfgM m hO).win 5).flush t = false := by
  obtain ⟨h1, h2⟩ := next_same t h
  unfold Window.flush
  rw [Bool.and_eq_false_iff]; right
  rw [Bool.or_eq_false_iff]
  refine ⟨decide_eq_false h1, decide_eq_false ?_⟩
  rintro ⟨hb, hne⟩
  apply hne
  rw [index5, index5, (h2 hb).1, (h2 hb).2]

/-! ## The accumulator along the grid -/

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_fox_attention_shift (grid0.coords t) (Memref.whole main_c) (Memref.isWhole_whole _) (Memref.whole main_c_0) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

/-- The accumulator after the body at point `t`, from what it held. -/
def accStep (hO : Ok m) (c : Dev nD) (t : Fin (cfgM m hO).N) (a : Vec F S4x1024x256 .f32) : Vec F S4x1024x256 .f32 :=
  accPt (rdQ c (grid0.coords t) (tbl m 0)) (rdK c (grid0.coords t) (tbl m 1)) (rdS0 c (grid0.coords t) (tbl m 2)) (rdS1 c (grid0.coords t) (tbl m 2)) (rdS2 c (grid0.coords t) (tbl m 2)) (rdS3 c (grid0.coords t) (tbl m 2))
    (iblk m hO c 0 t) (iblk m hO c 1 t) (iblk m hO c 2 t) (iblk m hO c 3 t) (iblk m hO c 4 t) a

/-- The accumulator before point `n`. -/
def accs (hO : Ok m) (c : Dev nD) : ℕ → Vec F S4x1024x256 .f32
  | 0 => k0_pay78
  | n + 1 => if h : n < grid0.N then accStep m hO c ⟨n, h⟩ (accs hO c n) else accs hO c n

theorem accs_succ (hO : Ok m) (c : Dev nD) (t : Fin (cfgM m hO).N) : accs m hO c (t.val + 1) = accStep m hO c t (accs m hO c t.val) := by
  rw [accs, dif_pos t.isLt]

/-- At a diagonal pair what the accumulator held does not matter. -/
theorem accPt_diag {w1 w3 : BitVec 32} (hd : isDiag w1 w3) (s0 s1 s2 s3 : BitVec 32) (x0 x1 x2 : Vec F S1024x512 .bf16) (x3 : Vec F S4x1024x1 .f32) (x4 : Vec F S4x1x1024 .f32) (a a' : Vec F S4x1024x256 .f32) :
    accPt w1 w3 s0 s1 s2 s3 x0 x1 x2 x3 x4 a = accPt w1 w3 s0 s1 s2 s3 x0 x1 x2 x3 x4 a' := by
  unfold accPt accZ
  rw [if_pos hd, if_pos hd]

/-- The first point is a diagonal pair. -/
theorem first_diag : ∀ t : Fin grid0.N, t.val = 0 → isDiag (lit0 (grid0.coords t 1)) (lit1 (grid0.coords t 1)) := by decide +kernel

theorem accStep_first (hO : Ok m) (c : Dev nD) (t : Fin (cfgM m hO).N) (h : t.val = 0) (a a' : Vec F S4x1024x256 .f32) : accStep m hO c t a = accStep m hO c t a' := by
  unfold accStep
  refine accPt_diag ?_ _ _ _ _ _ _ _ _ _ _ _
  rw [rdQ_eq, rdK_eq]
  exact first_diag t h

/-- What is carried between points: before point `n` the accumulator at `accs n` (before the first at anything), the generator's
    register and the tables' halves. -/
def Ph (hO : Ok m) (c : Dev nD) (n : ℕ) : sProp 𝕄 :=
  iprop(((∃ a, ⌜n ≠ 0 → a = accs m hO c n⌝ ∗ owns (c : Thread nD τ) scM0_0 fullShare a) ∗ (∃ r, prngReg c r)) ∗ Pipeline.ΦT pre0 (tbl m) c)

/-! ## The pipeline's proof data -/

/-- The proof data: the arrays as the region finds them; each input's buffer at its block and the output's at the quotient of
    the accumulator; between points the accumulator at `accs` (before the first point at anything), the generator's register and
    the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outF (accs m hO c (t.val + 1))
  Φ t := Ph m hO c t.val
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outF (accs m hO c (t.val + 1)) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

theorem phi_cast (hO : Ok m) (c : Dev nD) (t : Fin (cfgM m hO).N) : (dats m hO 0 c).Φ t.castSucc = Ph m hO c t.val := congrArg (Ph m hO c) (Fin.val_castSucc t)
theorem phi_succ (hO : Ok m) (c : Dev nD) (t : Fin (cfgM m hO).N) : (dats m hO 0 c).Φ t.succ = Ph m hO c (t.val + 1) := congrArg (Ph m hO c) (Fin.val_succ t)
theorem phi_first (hO : Ok m) (c : Dev nD) : (dats m hO 0 c).Φ 0 = Ph m hO c 0 := congrArg (Ph m hO c) (Fin.val_zero _)
theorem phi_last (hO : Ok m) (c : Dev nD) : (dats m hO 0 c).Φ (Fin.last (cfgM m hO).N) = Ph m hO c (cfgM m hO).N := congrArg (Ph m hO c) (Fin.val_last _)

end Cert.KernelIdeal.Gen

end
-- ==== Proof.ILaunch.lean ====
module

public import proofs.«01_k».proof.Proof.IData
public import Idealize.ShloMosaic.Lib.Claim
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.ReadBack
public import Idealize.ShloMosaic.Lib.WritesUnit
public import Idealize.ShloMosaic.Lib.VecWindow
public import Idealize.ShloMosaic.Lib.Ring
public import Idealize.ShloMosaic.Lib.Tactic
public import Idealize.ShloMosaic.Lib.StableHlo.RunRead
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem outPt_pos {w3 : BitVec 32} (h : k0_cond7 w3 = 1#1) (a : Vec F S4x1024x256 .f32) (y : Vec F S1024x512 .bf16) : outPt w3 a y = outF a := if_pos h
theorem outPt_neg {w3 : BitVec 32} (h : ¬k0_cond7 w3 = 1#1) (a : Vec F S4x1024x256 .f32) (y : Vec F S1024x512 .bf16) : outPt w3 a y = y := if_neg h

set_option maxHeartbeats 500000 in
/-- The body at any point: the inputs' memrefs hold their blocks; the accumulator is carried on, and the output's buffer is
    filled where the key block is the first and handed back as found elsewhere. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4]
  rw [phi_cast, phi_succ]
  unfold Ph
  rw [PhiT0_eq]
  iintro ⟨⟨⟨⟨%a, %ha, HS0⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply (body_run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) a ((dats m hO 0 c).before 5 t d5) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HT0]; · iexact HT0
  isplitl [HT1]; · iexact HT1
  isplitl [HT2]; · iexact HT2
  have hacc : accPt (rdQ c (grid0.coords t) (tbl m 0)) (rdK c (grid0.coords t) (tbl m 1)) (rdS0 c (grid0.coords t) (tbl m 2)) (rdS1 c (grid0.coords t) (tbl m 2)) (rdS2 c (grid0.coords t) (tbl m 2)) (rdS3 c (grid0.coords t) (tbl m 2))
    (iblk m hO c 0 t) (iblk m hO c 1 t) (iblk m hO c 2 t) (iblk m hO c 3 t) (iblk m hO c 4 t) a = accs m hO c (t.val + 1) := by
    rw [accs_succ]
    by_cases h0 : t.val = 0
    · exact accStep_first m hO c t h0 _ _
    · rw [ha h0]; rfl
  rw [hacc]
  iintro ⟨H0, H1, H2, H3, H4, H5, HS0, HT0, HT1, HT2⟩
  isplitl [HS0 Hg HT0 HT1 HT2]
  · isplitl [HS0 Hg]
    · isplitl [HS0]
      · iexists _; isplitr; · ipureintro; exact fun _ => rfl
        iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  rw [rdK_eq]
  by_cases hc : k0_cond7 (lit1 (grid0.coords t 1)) = 1#1
  · have hl : (dats m hO 0 c).leavesExact 5 t = owns (c : Thread nD τ) (ms0_5 m hO t) fullShare (outPt (lit1 (grid0.coords t 1)) (accs m hO c (t.val + 1)) ((dats m hO 0 c).before 5 t d5)) := by
      have hi : (cfgM m hO).idle 5 ((cfgM m hO).grid.coords t) = false := by
        rw [idle5]; show (!(k0_cond7 (lit1 (grid0.coords t 1)) == 1#1)) = false; rw [hc]; rfl
      unfold Dat.leavesExact
      rw [hi, after0_5]
      exact congrArg (owns (c : Thread nD τ) (ms0_5 m hO t) fullShare) (outPt_pos hc _ _).symm
    rw [hl]
    iexact H5
  · have hl : (dats m hO 0 c).leavesExact 5 t = iprop(∃ d, owns (c : Thread nD τ) (ms0_5 m hO t) fullShare (outPt (lit1 (grid0.coords t 1)) (accs m hO c (t.val + 1)) ((dats m hO 0 c).before 5 t d))) := by
      refine ((dats m hO 0 c).leavesExact_idle 5 t (by
        rw [idle5]; show (!(k0_cond7 (lit1 (grid0.coords t 1)) == 1#1)) = true; rw [beq_false_of_ne hc]; rfl) (flush5_idle m hO t hc)).trans ?_
      congr 1
      funext d
      exact congrArg (owns (c : Thread nD τ) (ms0_5 m hO t) fullShare) (outPt_neg hc _ _).symm
    rw [hl]
    iexists d5
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- Before the first point the accumulator holds anything. -/
theorem phi_in (hO : Ok m) (c : Dev nD) : iprop(Pipeline.ΦA spec0 c ∗ Pipeline.ΦT pre0 (tbl m) c) ⊢ (dats m hO 0 c).Φ 0 := by
  rw [phi_first, PhiA0_eq]
  unfold Ph
  iintro ⟨⟨⟨%a, HS0⟩, Hg⟩, HT⟩
  isplitl [HS0 Hg]
  · isplitl [HS0]
    · iexists a; isplitr; · ipureintro; exact fun h => absurd rfl h
      iexact HS0
    iexact Hg
  iexact HT

/-- After the last point the accumulator is given back. -/
theorem phi_out (hO : Ok m) (c : Dev nD) : (dats m hO 0 c).Φ (Fin.last (cfgM m hO).N) ⊢ (Pipeline.ΦA spec0 c : sProp 𝕄) := by
  rw [phi_last, PhiA0_eq]
  unfold Ph
  iintro ⟨⟨⟨%a, %ha, HS0⟩, Hg⟩, HT⟩
  isplitl [HS0]
  · iexists a; iexact HS0
  iexact Hg

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := phi_in m hO) (hout := phi_out m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Gen

end
-- ==== Proof.KFrame.lean ====
module

public import proofs.«01_k».proof.Defs
public import proofs.«01_k».proof.Proof.Gen.Kernel
public import proofs.«01_k».proof.Proof.Gen.KernelIdeal
public import proofs.«01_k».proof.Proof.ILaunch

/-! The frame of the kernel as printed, from the one proved for the kernel with named constants. -/

@[expose] public section

set_option maxRecDepth 65536

noncomputable section

namespace Cert.Printed

open Idealize.ShloMosaic Idealize.SL.Sem

/-- The float type in which every named constant is its bit pattern: there both kernels are the same program. -/
abbrev bits : Named Bits := ⟨fun _ _ {φ} b => FloatOps.ofBits φ b⟩

variable [hK : Cert.Kernel.Facts] [hI : Cert.KernelIdeal.Facts]

theorem defs0_eq : @Cert.KernelIdeal.defs₀ Bits _ bits hI = @Cert.Kernel.defs₀ Bits _ hK := by
  refine congrArg Defs.onTc (funext fun l => funext fun a => ?_)
  match l, a with
  | 0, (t, s) => exact (rfl)

set_option maxHeartbeats 4000000 in
theorem main_eq : @Cert.KernelIdeal.main Bits _ bits hI = @Cert.Kernel.main Bits _ hK := (rfl)

theorem defs_eq : @Cert.KernelIdeal.defs Bits _ bits hI = @Cert.Kernel.defs Bits _ hK :=
  congrArg (Pipeline.defs (@Cert.KernelIdeal.pcfgs Bits _ bits hI)) defs0_eq

/-- The kernel as printed leaves its arguments and its counters: it is the other kernel, read at the words. -/
theorem frame : Cert.quiescent_Kernel := by
  intro m g _
  have h := @Cert.KernelIdeal.Gen.frame Bits _ bits m g (@Cert.KernelIdeal.Gen.ok_m Bits _ bits m)
  rw [defs_eq, main_eq] at h
  exact h

end Cert.Printed
-- ==== Proof.VBlock.lean ====
module

public import proofs.«01_k».proof.Proof.IBlocks
public import Idealize.ShloMosaic.Lib.Pointwise

@[expose] public section

set_option maxRecDepth 16384

noncomputable section

namespace Cert.KernelIdeal.Gen

open Idealize.ShloMosaic Idealize.SL.Sem

/-- The scale of the products of queries and keys, to the base two. -/
def cScale : EReal := (((Real.sqrt 128)⁻¹ * (Real.log 2)⁻¹ : ℝ) : EReal)
/-- The logarithm of `e` to the base two. -/
def cLog : EReal := (((Real.log 2)⁻¹ : ℝ) : EReal)

theorem named_scale (b : BitVec 32) : Named.named (F := Ideal) (φ := .f32) κ "scale_log2e" b = cScale := by
  simp [Named.named, κ, cScale]
theorem named_log (b : BitVec 32) : Named.named (F := Ideal) (φ := .f32) κ "log2e" b = cLog := by
  simp [Named.named, κ, cLog]
theorem named_mask (b : BitVec 32) : Named.named (F := Ideal) (φ := .f32) κ "mask" b = ⊥ := by
  simp [Named.named, κ]

/-- An off-diagonal row chunk: what was there plus the chunk's weighted sum over the block's keys. -/
theorem pay39_apply (v : Vec Ideal S1024x128 .bf16) (q : Vec Ideal S256x128 .bf16) (k : Vec Ideal S1024x128 .bf16)
    (fc : Vec Ideal S1x256x1 .f32) (fr : Vec Ideal S1x1x1024 .f32) (a : Vec Ideal S1x256x256 .f32) (r l : Fin 256) :
    k0_pay39 (F := Ideal) v q k fc fr a (ix3 0 r l) = a (ix3 0 r l) + ∑ x : Fin 1024,
      Ideal.exp2 ((∑ d : Fin 128, q (ix2 r d) * k (ix2 x d)) * cScale + fc (ix3 0 r 0) * cLog - fr (ix3 0 0 x) * cLog) *
        (if h : l.val < 128 then v (ix2 x ⟨l.val, h⟩) else 1) := by
  pointwise [k0_pay39, k0_pay38, named_scale, named_log, named_mask]
  rfl

/-- The causal test inside the diagonal block. -/
theorem causal_word (x r t : ℕ) (hx : x < 1024) (hr : r < 256) (ht : t < 4) (s : EReal) :
    Scalar.select (IntOp.cmpi CmpIPredicate.sle (IntOp.subi (BitVec.ofNat 32 x) (BitVec.ofNat 32 r)) (BitVec.ofNat 32 (256 * t))) s ⊥
      = if x ≤ 256 * t + r then s else ⊥ := by
  have hb : IntOp.cmpi CmpIPredicate.sle (IntOp.subi (BitVec.ofNat 32 x) (BitVec.ofNat 32 r)) (BitVec.ofNat 32 (256 * t))
      = BitVec.ofBool (decide (x ≤ 256 * t + r)) := by
    have hx' : (BitVec.ofNat 32 x).toInt = x := by rw [BitVec.toInt_eq_toNat_of_lt (by rw [BitVec.toNat_ofNat]; omega), BitVec.toNat_ofNat]; omega
    have hr' : (BitVec.ofNat 32 r).toInt = r := by rw [BitVec.toInt_eq_toNat_of_lt (by rw [BitVec.toNat_ofNat]; omega), BitVec.toNat_ofNat]; omega
    have ht' : (BitVec.ofNat 32 (256 * t)).toInt = (256 * t : ℕ) := by rw [BitVec.toInt_eq_toNat_of_lt (by rw [BitVec.toNat_ofNat]; omega), BitVec.toNat_ofNat]; omega
    simp only [IntOp.cmpi, IntOp.subi]
    congr 1
    rw [BitVec.sle_eq_decide, BitVec.toInt_sub, hx', hr', ht']
    have e : ((x : ℤ) - (r : ℤ)).bmod (2 ^ 32) = x - r := by simp [Int.bmod]; omega
    rw [e]
    congr 1
    apply propext
    push_cast
    omega
  rw [hb]
  by_cases h : x ≤ 256 * t + r <;> simp [h, Scalar.select]

/-- Row chunk 1 of a diagonal block: what was there plus the weighted sum over the first 512 keys, the later ones of no weight. -/
theorem pay7_apply (v : Vec Ideal S1024x128 .bf16) (q : Vec Ideal S256x128 .bf16) (k : Vec Ideal S512x128 .bf16)
    (fc : Vec Ideal S1x256x1 .f32) (fr : Vec Ideal S1x1x512 .f32) (a : Vec Ideal S1x256x256 .f32) (r l : Fin 256) :
    k0_pay7 (F := Ideal) k0_pay3 (k0_pay4 v) q k fc fr a (ix3 0 r l) = a (ix3 0 r l) + ∑ x : Fin 512,
      Ideal.exp2 (if x.val ≤ 256 * 1 + r.val then (∑ d : Fin 128, q (ix2 r d) * k (ix2 x d)) * cScale + fc (ix3 0 r 0) * cLog - fr (ix3 0 0 x) * cLog else ⊥) *
        (if h : l.val < 128 then v (ix2 ⟨x.val, by have := x.isLt; omega⟩ ⟨l.val, h⟩) else 1) := by
  pointwise [k0_pay7, k0_pay3, k0_pay4, named_scale, named_log, named_mask]
  refine congrArg (a (ix3 0 r l) + ·) (Finset.sum_congr rfl fun x _ => ?_)
  rw [← causal_word x.val r.val 1 (by have := x.isLt; omega) r.isLt (by omega)]
  rfl

/-- Row chunk 2 of a diagonal block: what was there plus the weighted sum over the first 768 keys, the later ones of no weight. -/
theorem pay8_apply (v : Vec Ideal S1024x128 .bf16) (q : Vec Ideal S256x128 .bf16) (k : Vec Ideal S768x128 .bf16)
    (fc : Vec Ideal S1x256x1 .f32) (fr : Vec Ideal S1x1x768 .f32) (a : Vec Ideal S1x256x256 .f32) (r l : Fin 256) :
    k0_pay8 (F := Ideal) k0_pay3 (k0_pay4 v) q k fc fr a (ix3 0 r l) = a (ix3 0 r l) + ∑ x : Fin 768,
      Ideal.exp2 (if x.val ≤ 256 * 2 + r.val then (∑ d : Fin 128, q (ix2 r d) * k (ix2 x d)) * cScale + fc (ix3 0 r 0) * cLog - fr (ix3 0 0 x) * cLog else ⊥) *
        (if h : l.val < 128 then v (ix2 ⟨x.val, by have := x.isLt; omega⟩ ⟨l.val, h⟩) else 1) := by
  pointwise [k0_pay8, k0_pay3, k0_pay4, named_scale, named_log, named_mask]
  refine congrArg (a (ix3 0 r l) + ·) (Finset.sum_congr rfl fun x _ => ?_)
  rw [← causal_word x.val r.val 2 (by have := x.isLt; omega) r.isLt (by omega)]
  rfl

/-- Row chunk 3 of a diagonal block: what was there plus the weighted sum over the first 1024 keys, the later ones of no weight. -/
theorem pay9_apply (v : Vec Ideal S1024x128 .bf16) (q : Vec Ideal S256x128 .bf16) (k : Vec Ideal S1024x128 .bf16)
    (fc : Vec Ideal S1x256x1 .f32) (fr : Vec Ideal S1x1x1024 .f32) (a : Vec Ideal S1x256x256 .f32) (r l : Fin 256) :
    k0_pay9 (F := Ideal) k0_pay3 (k0_pay4 v) q k fc fr a (ix3 0 r l) = a (ix3 0 r l) + ∑ x : Fin 1024,
      Ideal.exp2 (if x.val ≤ 256 * 3 + r.val then (∑ d : Fin 128, q (ix2 r d) * k (ix2 x d)) * cScale + fc (ix3 0 r 0) * cLog - fr (ix3 0 0 x) * cLog else ⊥) *
        (if h : l.val < 128 then v (ix2 ⟨x.val, by have := x.isLt; omega⟩ ⟨l.val, h⟩) else 1) := by
  pointwise [k0_pay9, k0_pay3, k0_pay4, named_scale, named_log, named_mask]
  refine congrArg (a (ix3 0 r l) + ·) (Finset.sum_congr rfl fun x _ => ?_)
  rw [← causal_word x.val r.val 3 (by have := x.isLt; omega) r.isLt (by omega)]
  rfl

/-- The causal test inside the diagonal block, in its first row chunk. -/
theorem causal_zero (x r : ℕ) (hx : x < 1024) (hr : r < 256) (s : EReal) :
    Scalar.select (IntOp.cmpi CmpIPredicate.sle (IntOp.subi (BitVec.ofNat 32 x) (BitVec.ofNat 32 r)) 0#32) s ⊥
      = if x ≤ r then s else ⊥ := by
  have h := causal_word x r 0 hx hr (by omega) s
  rw [Nat.mul_zero, Nat.zero_add] at h
  exact h

/-- Row chunk 0 of a diagonal block: what was there plus the weighted sum over the first 256 keys, the later ones of no weight. -/
theorem pay6_apply (v : Vec Ideal S1024x128 .bf16) (q : Vec Ideal S256x128 .bf16) (k : Vec Ideal S256x128 .bf16)
    (fc : Vec Ideal S1x256x1 .f32) (fr : Vec Ideal S1x1x256 .f32) (a : Vec Ideal S1x256x256 .f32) (r l : Fin 256) :
    k0_pay6 (F := Ideal) (k0_pay5 v q k fc fr a) (ix3 0 r l) = a (ix3 0 r l) + ∑ x : Fin 256,
      Ideal.exp2 (if x.val ≤ r.val then (∑ d : Fin 128, q (ix2 r d) * k (ix2 x d)) * cScale + fc (ix3 0 r 0) * cLog - fr (ix3 0 0 x) * cLog else ⊥) *
        (if h : l.val < 128 then v (ix2 ⟨x.val, by have := x.isLt; omega⟩ ⟨l.val, h⟩) else 1) := by
  pointwise [k0_pay6, k0_pay5, k0_pay3, k0_pay4, named_scale, named_log, named_mask]
  refine congrArg (a (ix3 0 r l) + ·) (Finset.sum_congr rfl fun x _ => ?_)
  rw [← causal_zero x.val r.val (by have := x.isLt; omega) r.isLt]
  rfl

/-- A query's score of a key, to the base two, from the blocks that hold them. -/
def sc (x0 x1 : Vec Ideal S1024x512 .bf16) (x3 : Vec Ideal S4x1024x1 .f32) (x4 : Vec Ideal S4x1x1024 .f32) (h : Fin 4) (R c : Fin 1024) : EReal :=
  (∑ d : Fin 128, x0 (ix2 R ⟨128 * h.val + d.val, by have := h.isLt; have := d.isLt; omega⟩) * x1 (ix2 c ⟨128 * h.val + d.val, by have := h.isLt; have := d.isLt; omega⟩)) * cScale
    + x3 (ix3 h R 0) * cLog - x4 (ix3 h 0 c) * cLog

/-- A key's value row, followed by ones. -/
def ve (x2 : Vec Ideal S1024x512 .bf16) (h : Fin 4) (c : Fin 1024) (l : Fin 256) : EReal :=
  if hl : l.val < 128 then x2 (ix2 c ⟨128 * h.val + l.val, by have := h.isLt; omega⟩) else 1

/-- An off-diagonal row chunk, from the blocks. -/
theorem fullC_apply (x0 x1 x2 : Vec Ideal S1024x512 .bf16) (x3 : Vec Ideal S4x1024x1 .f32) (x4 : Vec Ideal S4x1x1024 .f32) (acc : Vec Ideal S4x1024x256 .f32)
    (h t : Fin 4) (r l : Fin 256) (R : Fin 1024) (hR : R.val = 256 * t.val + r.val) :
    fullC x0 x1 x2 x3 x4 acc h t (ix3 0 r l) = acc (ix3 h R l) + ∑ c : Fin 1024, Ideal.exp2 (sc x0 x1 x3 x4 h R c) * ve x2 h c l := by
  obtain ⟨R, hlt⟩ := R
  dsimp only at hR
  subst hR
  unfold fullC
  rw [pay39_apply]
  pointwise [qS, kS, fcS, frS, aS, sc, ve]

/-- A sum over the first `n` of 1024 indices of a function that is zero on the rest. -/
theorem sum_first (n : ℕ) (hn : n ≤ 1024) (f : Fin 1024 → EReal) (h0 : ∀ c : Fin 1024, n ≤ c.val → f c = 0) :
    ∑ x : Fin n, f ⟨x.val, lt_of_lt_of_le x.isLt hn⟩ = ∑ c : Fin 1024, f c := by
  let g : ℕ → EReal := fun k => if hk : k < 1024 then f ⟨k, hk⟩ else 0
  have e1 : ∑ x : Fin n, f ⟨x.val, lt_of_lt_of_le x.isLt hn⟩ = ∑ x : Fin n, g x.val :=
    Finset.sum_congr rfl fun x _ => by
      show _ = dite (x.val < 1024) (fun hk => f ⟨x.val, hk⟩) (fun _ => 0)
      rw [dif_pos (lt_of_lt_of_le x.isLt hn)]
  have e2 : ∑ c : Fin 1024, f c = ∑ c : Fin 1024, g c.val :=
    Finset.sum_congr rfl fun x _ => by
      show _ = dite (x.val < 1024) (fun hk => f ⟨x.val, hk⟩) (fun _ => 0)
      rw [dif_pos x.isLt]
  rw [e1, e2, Fin.sum_univ_eq_sum_range g n, Fin.sum_univ_eq_sum_range g 1024]
  refine Finset.sum_subset (fun k hk => Finset.mem_range.2 (lt_of_lt_of_le (Finset.mem_range.1 hk) hn)) fun k hk hk' => ?_
  have h1 := Finset.mem_range.1 hk
  have h2 : n ≤ k := Nat.le_of_not_lt fun hlt => hk' (Finset.mem_range.2 hlt)
  show (if hk : k < 1024 then f ⟨k, hk⟩ else 0) = 0
  rw [dif_pos h1]
  exact h0 _ h2

/-- The causal weight of a key inside the diagonal block. -/
theorem causal_term (c R : ℕ) (s y : EReal) : Ideal.exp2 (if c ≤ R then s else ⊥) * y = if c ≤ R then Ideal.exp2 s * y else 0 := by
  by_cases h : c ≤ R
  · rw [if_pos h, if_pos h]
  · rw [if_neg h, if_neg h, Ideal.exp2_bot, zero_mul]

/-- A diagonal row chunk, from the blocks. -/
theorem diagC_apply (x0 x1 x2 : Vec Ideal S1024x512 .bf16) (x3 : Vec Ideal S4x1024x1 .f32) (x4 : Vec Ideal S4x1x1024 .f32) (acc : Vec Ideal S4x1024x256 .f32)
    (h t : Fin 4) (r l : Fin 256) (R : Fin 1024) (hR : R.val = 256 * t.val + r.val) :
    diagC x0 x1 x2 x3 x4 acc h t (ix3 0 r l) = acc (ix3 h R l) + ∑ c : Fin 1024, (if c.val ≤ R.val then Ideal.exp2 (sc x0 x1 x3 x4 h R c) * ve x2 h c l else 0) := by
  have hr := r.isLt
  match t with
  | 0 =>
    have hR' : R.val = r.val := by rw [hR]; simp
    rw [← sum_first 256 (by omega) _ (fun c hc => if_neg (by rw [hR']; omega))]
    show k0_pay6 (F := Ideal) (k0_pay5 _ _ _ _ _ _) (ix3 0 r l) = _
    rw [pay6_apply]
    refine congrArg₂ (· + ·) ?_ (Finset.sum_congr rfl fun x _ => ?_)
    · pointwise [aS]
      refine congrArg acc (congrArg (fun q => ix3 h q l) (Fin.ext ?_))
      simp [hR']
    · rw [hR', causal_term]
      by_cases hx : x.val ≤ r.val
      · rw [if_pos hx, if_pos hx]
        obtain ⟨R, hlt⟩ := R
        dsimp only at hR'
        subst hR'
        pointwise [qS, kS, fcS, frS, sc, ve]
      · rw [if_neg hx, if_neg hx]
  | 1 =>
    have hR' : R.val = 256 * 1 + r.val := hR
    rw [← sum_first 512 (by omega) _ (fun c hc => if_neg (by rw [hR']; omega))]
    show k0_pay7 (F := Ideal) k0_pay3 (k0_pay4 _) _ _ _ _ _ (ix3 0 r l) = _
    rw [pay7_apply]
    refine congrArg₂ (· + ·) ?_ (Finset.sum_congr rfl fun x _ => ?_)
    · pointwise [aS]
      refine congrArg acc (congrArg (fun q => ix3 h q l) (Fin.ext ?_))
      simp [hR']
    · rw [hR', causal_term]
      by_cases hx : x.val ≤ 256 * 1 + r.val
      · rw [if_pos hx, if_pos hx]
        obtain ⟨R, hlt⟩ := R
        dsimp only at hR'
        subst hR'
        pointwise [qS, kS, fcS, frS, sc, ve]
      · rw [if_neg hx, if_neg hx]
  | 2 =>
    have hR' : R.val = 256 * 2 + r.val := hR
    rw [← sum_first 768 (by omega) _ (fun c hc => if_neg (by rw [hR']; omega))]
    show k0_pay8 (F := Ideal) k0_pay3 (k0_pay4 _) _ _ _ _ _ (ix3 0 r l) = _
    rw [pay8_apply]
    refine congrArg₂ (· + ·) ?_ (Finset.sum_congr rfl fun x _ => ?_)
    · pointwise [aS]
      refine congrArg acc (congrArg (fun q => ix3 h q l) (Fin.ext ?_))
      simp [hR']
    · rw [hR', causal_term]
      by_cases hx : x.val ≤ 256 * 2 + r.val
      · rw [if_pos hx, if_pos hx]
        obtain ⟨R, hlt⟩ := R
        dsimp only at hR'
        subst hR'
        pointwise [qS, kS, fcS, frS, sc, ve]
      · rw [if_neg hx, if_neg hx]
  | 3 =>
    have hR' : R.val = 256 * 3 + r.val := hR
    rw [← sum_first 1024 (by omega) _ (fun c hc => if_neg (by rw [hR']; omega))]
    show k0_pay9 (F := Ideal) k0_pay3 (k0_pay4 _) _ _ _ _ _ (ix3 0 r l) = _
    rw [pay9_apply]
    refine congrArg₂ (· + ·) ?_ (Finset.sum_congr rfl fun x _ => ?_)
    · pointwise [aS]
      refine congrArg acc (congrArg (fun q => ix3 h q l) (Fin.ext ?_))
      simp [hR']
    · rw [hR', causal_term]
      by_cases hx : x.val ≤ 256 * 3 + r.val
      · rw [if_pos hx, if_pos hx]
        obtain ⟨R, hlt⟩ := R
        dsimp only at hR'
        subst hR'
        pointwise [qS, kS, fcS, frS, sc, ve]
      · rw [if_neg hx, if_neg hx]

/-- Where an accumulator index lies, at an index given by its coordinates. -/
theorem inChunk_ix (h : Fin 4) (R : Fin 1024) (l : Fin 256) : inChunk (ix3 h R l) = ix3 0 ⟨R.val % 256, Nat.mod_lt _ (by norm_num)⟩ l := by
  funext a
  match a with
  | 0 => rfl
  | 1 => rfl
  | 2 => rfl

/-- An off-diagonal pair adds to its head's rows the weighted sum over the block's keys, and leaves the other heads. -/
theorem updH_apply (h' : Fin 4) (x0 x1 x2 : Vec Ideal S1024x512 .bf16) (x3 : Vec Ideal S4x1024x1 .f32) (x4 : Vec Ideal S4x1x1024 .f32) (acc : Vec Ideal S4x1024x256 .f32)
    (h : Fin 4) (R : Fin 1024) (l : Fin 256) :
    updH h' x0 x1 x2 x3 x4 acc (ix3 h R l) = if h = h' then acc (ix3 h R l) + ∑ c : Fin 1024, Ideal.exp2 (sc x0 x1 x3 x4 h R c) * ve x2 h c l else acc (ix3 h R l) := by
  unfold updH
  by_cases hh : h = h'
  · rw [if_pos hh, if_pos (show headOf (ix3 h R l) = h' from hh), inChunk_ix]
    exact fullC_apply x0 x1 x2 x3 x4 acc h (chunkOf (ix3 h R l)) _ l R (Nat.div_add_mod R.val 256).symm
  · rw [if_neg hh, if_neg (show ¬ headOf (ix3 h R l) = h' from hh)]

/-- A diagonal pair adds to every head's rows the weighted sum over the keys not after the query. -/
theorem updD_apply (x0 x1 x2 : Vec Ideal S1024x512 .bf16) (x3 : Vec Ideal S4x1024x1 .f32) (x4 : Vec Ideal S4x1x1024 .f32) (acc : Vec Ideal S4x1024x256 .f32)
    (h : Fin 4) (R : Fin 1024) (l : Fin 256) :
    updD x0 x1 x2 x3 x4 acc (ix3 h R l) = acc (ix3 h R l) + ∑ c : Fin 1024, (if c.val ≤ R.val then Ideal.exp2 (sc x0 x1 x3 x4 h R c) * ve x2 h c l else 0) := by
  unfold updD
  rw [inChunk_ix]
  exact diagC_apply x0 x1 x2 x3 x4 acc h (chunkOf (ix3 h R l)) _ l R (Nat.div_add_mod R.val 256).symm

/-- The accumulator's start is zero. -/
theorem pay78_apply (j : S4x1024x256.Idx) : k0_pay78 (F := Ideal) j = 0 := by
  idx_vars j
  pointwise [k0_pay78]

/-- The output block: the weighted values over the weights. -/
theorem outF_apply (acc : Vec Ideal S4x1024x256 .f32) (R : Fin 1024) (h : Fin 4) (d : Fin 128) :
    outF acc (ix2 R ⟨128 * h.val + d.val, by have := h.isLt; have := d.isLt; omega⟩)
      = Ideal.div (acc (ix3 h R ⟨d.val, by have := d.isLt; omega⟩)) (acc (ix3 h R ⟨128 + d.val, by have := d.isLt; omega⟩)) := by
  have hh : outHead (ix2 R ⟨128 * h.val + d.val, by have := h.isLt; have := d.isLt; omega⟩ : S1024x512.Idx) = h :=
    Fin.ext (show (128 * h.val + d.val) / 128 = h.val by have := d.isLt; omega)
  have hi : inHead (ix2 R ⟨128 * h.val + d.val, by have := h.isLt; have := d.isLt; omega⟩ : S1024x512.Idx) = ix2 R d := by
    funext a
    match a with
    | 0 => rfl
    | 1 => exact Fin.ext (show (128 * h.val + d.val) % 128 = d.val by have := d.isLt; omega)
  unfold outF
  rw [hh, hi]
  pointwise [k0_pay74, nS, dS]

end Cert.KernelIdeal.Gen
end
-- ==== Proof.VPoint.lean ====
module

public import proofs.«01_k».proof.Proof.IData
public import proofs.«01_k».proof.Proof.VBlock
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-! ## The blocks, read in their arrays -/

theorem index0 (hO : Ok m) (t : Fin grid0.N) : ((cfgM m hO).win 0).index t = ![qB (grid0.coords t 1), (grid0.coords t 0).val] := tr0 m (grid0.coords t)
theorem index1 (hO : Ok m) (t : Fin grid0.N) : ((cfgM m hO).win 1).index t = ![kB (grid0.coords t 1), 4 + (grid0.coords t 0).val] := tr1 m (grid0.coords t)
theorem index2 (hO : Ok m) (t : Fin grid0.N) : ((cfgM m hO).win 2).index t = ![kB (grid0.coords t 1), (grid0.coords t 0).val] := tr2 m (grid0.coords t)
theorem index3 (hO : Ok m) (t : Fin grid0.N) : ((cfgM m hO).win 3).index t = ![(grid0.coords t 0).val, qB (grid0.coords t 1), 0] := tr3 m (grid0.coords t)
theorem index4 (hO : Ok m) (t : Fin grid0.N) : ((cfgM m hO).win 4).index t = ![(grid0.coords t 0).val, 0, kB (grid0.coords t 1)] := tr4 m (grid0.coords t)

/-- The queries' block. -/
theorem read0 (hO : Ok m) (c : Dev nD) (t : Fin grid0.N) (R : Fin 1024) (D : Fin 512) (i : Fin 8192) (j : Fin 4096)
    (hi : i.val = 1024 * qB (grid0.coords t 1) + R.val) (hj : j.val = 512 * (grid0.coords t 0).val + D.val) :
    (iblk m hO c 0 t : Vec Ideal S1024x512 .bf16) (ix2 R D) = (V m c main_arg0 : Vec Ideal S8192x4096 .bf16) (ix2 i j) := by
  have e := index0 m hO t
  blk_ext [iblk, e]

/-- The keys' block. -/
theorem read1 (hO : Ok m) (c : Dev nD) (t : Fin grid0.N) (R : Fin 1024) (D : Fin 512) (i : Fin 8192) (j : Fin 4096)
    (hi : i.val = 1024 * kB (grid0.coords t 1) + R.val) (hj : j.val = 2048 + 512 * (grid0.coords t 0).val + D.val) :
    (iblk m hO c 1 t : Vec Ideal S1024x512 .bf16) (ix2 R D) = (V m c main_arg0 : Vec Ideal S8192x4096 .bf16) (ix2 i j) := by
  have e := index1 m hO t
  blk_ext [iblk, e]

/-- The values' block. -/
theorem read2 (hO : Ok m) (c : Dev nD) (t : Fin grid0.N) (R : Fin 1024) (D : Fin 512) (i : Fin 8192) (j : Fin 2048)
    (hi : i.val = 1024 * kB (grid0.coords t 1) + R.val) (hj : j.val = 512 * (grid0.coords t 0).val + D.val) :
    (iblk m hO c 2 t : Vec Ideal S1024x512 .bf16) (ix2 R D) = (V m c main_arg1 : Vec Ideal S8192x2048 .bf16) (ix2 i j) := by
  have e := index2 m hO t
  blk_ext [iblk, e]

/-- The block of the query side's gates' sums. -/
theorem read3 (hO : Ok m) (c : Dev nD) (t : Fin grid0.N) (h : Fin 4) (R : Fin 1024) (H : Fin 16) (i : Fin 8192)
    (hH : H.val = 4 * (grid0.coords t 0).val + h.val) (hi : i.val = 1024 * qB (grid0.coords t 1) + R.val) :
    (iblk m hO c 3 t : Vec Ideal S4x1024x1 .f32) (ix3 h R 0) = (V m c main_v13 : Vec Ideal S16x8192x1 .f32) (ix3 H i 0) := by
  have e := index3 m hO t
  blk_ext [iblk, e]

/-- The block of the key side's gates' sums. -/
theorem read4 (hO : Ok m) (c : Dev nD) (t : Fin grid0.N) (h : Fin 4) (R : Fin 1024) (H : Fin 16) (i : Fin 8192)
    (hH : H.val = 4 * (grid0.coords t 0).val + h.val) (hi : i.val = 1024 * kB (grid0.coords t 1) + R.val) :
    (iblk m hO c 4 t : Vec Ideal S4x1x1024 .f32) (ix3 h 0 R) = (V m c main_v14 : Vec Ideal S16x1x8192 .f32) (ix3 H 0 i) := by
  have e := index4 m hO t
  blk_ext [iblk, e]

/-! ## The flags -/

/-- The flags' table. -/
def flags : Vec Ideal S16x36 .i32 := m (((0 : Dev nD) : Thread nD τ).loc main_arg5)

theorem flagOff0 (i : grid0.Coords) : k0_off2 i = ![4 * (i 0).val + 0, (i 1).val] := by
  have h0 : ∀ g : Fin 4, (BitVec.ofNat 32 g.val * 4#32 + 0#32).toNat = 4 * g.val + 0 := by decide +kernel
  have h1 : ∀ q : Fin 36, (BitVec.ofNat 32 q.val).toNat = q.val := by decide +kernel
  funext a
  match a with
  | ⟨0, _⟩ => exact h0 (i 0)
  | ⟨1, _⟩ => exact h1 (i 1)

/-- Head 0 of the group reads its own flag of the pair. -/
theorem flag0 (c : Dev nD) (t : Fin grid0.N) (H : Fin 16) (hH : H.val = 4 * (grid0.coords t 0).val + 0) :
    rdS0 (F := Ideal) c (grid0.coords t) (tbl m 2) = flags m (ix2 H (grid0.coords t 1 : Fin 36)) := by
  rw [tbl_s]
  unfold rdS0
  rw [View.readAt_eq_ld]
  refine congrArg (flags m) ?_
  have e := flagOff0 (grid0.coords t)
  generalize hz : (Shape.Idx.first (s := S1x1) (numel1_S1x1.symm ▸ Nat.one_pos)) = z
  have z0 : (z 0).val = 0 := Nat.lt_one_iff.mp (z 0).isLt
  have z1 : (z 1).val = 0 := Nat.lt_one_iff.mp (z 1).isLt
  funext a
  apply Fin.ext
  match a with
  | ⟨0, _⟩ =>
    show k0_off2 (grid0.coords t) 0 + 1 * (z 0).val = H.val
    rw [e, z0, hH]; rfl
  | ⟨1, _⟩ =>
    show k0_off2 (grid0.coords t) 1 + 1 * (z 1).val = (grid0.coords t 1).val
    rw [e, z1]; rfl

theorem flagOff1 (i : grid0.Coords) : k0_off3 i = ![4 * (i 0).val + 1, (i 1).val] := by
  have h0 : ∀ g : Fin 4, (BitVec.ofNat 32 g.val * 4#32 + 1#32).toNat = 4 * g.val + 1 := by decide +kernel
  have h1 : ∀ q : Fin 36, (BitVec.ofNat 32 q.val).toNat = q.val := by decide +kernel
  funext a
  match a with
  | ⟨0, _⟩ => exact h0 (i 0)
  | ⟨1, _⟩ => exact h1 (i 1)

/-- Head 1 of the group reads its own flag of the pair. -/
theorem flag1 (c : Dev nD) (t : Fin grid0.N) (H : Fin 16) (hH : H.val = 4 * (grid0.coords t 0).val + 1) :
    rdS1 (F := Ideal) c (grid0.coords t) (tbl m 2) = flags m (ix2 H (grid0.coords t 1 : Fin 36)) := by
  rw [tbl_s]
  unfold rdS1
  rw [View.readAt_eq_ld]
  refine congrArg (flags m) ?_
  have e := flagOff1 (grid0.coords t)
  generalize hz : (Shape.Idx.first (s := S1x1) (numel1_S1x1.symm ▸ Nat.one_pos)) = z
  have z0 : (z 0).val = 0 := Nat.lt_one_iff.mp (z 0).isLt
  have z1 : (z 1).val = 0 := Nat.lt_one_iff.mp (z 1).isLt
  funext a
  apply Fin.ext
  match a with
  | ⟨0, _⟩ =>
    show k0_off3 (grid0.coords t) 0 + 1 * (z 0).val = H.val
    rw [e, z0, hH]; rfl
  | ⟨1, _⟩ =>
    show k0_off3 (grid0.coords t) 1 + 1 * (z 1).val = (grid0.coords t 1).val
    rw [e, z1]; rfl

theorem flagOff2 (i : grid0.Coords) : k0_off4 i = ![4 * (i 0).val + 2, (i 1).val] := by
  have h0 : ∀ g : Fin 4, (BitVec.ofNat 32 g.val * 4#32 + 2#32).toNat = 4 * g.val + 2 := by decide +kernel
  have h1 : ∀ q : Fin 36, (BitVec.ofNat 32 q.val).toNat = q.val := by decide +kernel
  funext a
  match a with
  | ⟨0, _⟩ => exact h0 (i 0)
  | ⟨1, _⟩ => exact h1 (i 1)

/-- Head 2 of the group reads its own flag of the pair. -/
theorem flag2 (c : Dev nD) (t : Fin grid0.N) (H : Fin 16) (hH : H.val = 4 * (grid0.coords t 0).val + 2) :
    rdS2 (F := Ideal) c (grid0.coords t) (tbl m 2) = flags m (ix2 H (grid0.coords t 1 : Fin 36)) := by
  rw [tbl_s]
  unfold rdS2
  rw [View.readAt_eq_ld]
  refine congrArg (flags m) ?_
  have e := flagOff2 (grid0.coords t)
  generalize hz : (Shape.Idx.first (s := S1x1) (numel1_S1x1.symm ▸ Nat.one_pos)) = z
  have z0 : (z 0).val = 0 := Nat.lt_one_iff.mp (z 0).isLt
  have z1 : (z 1).val = 0 := Nat.lt_one_iff.mp (z 1).isLt
  funext a
  apply Fin.ext
  match a with
  | ⟨0, _⟩ =>
    show k0_off4 (grid0.coords t) 0 + 1 * (z 0).val = H.val
    rw [e, z0, hH]; rfl
  | ⟨1, _⟩ =>
    show k0_off4 (grid0.coords t) 1 + 1 * (z 1).val = (grid0.coords t 1).val
    rw [e, z1]; rfl

theorem flagOff3 (i : grid0.Coords) : k0_off5 i = ![4 * (i 0).val + 3, (i 1).val] := by
  have h0 : ∀ g : Fin 4, (BitVec.ofNat 32 g.val * 4#32 + 3#32).toNat = 4 * g.val + 3 := by decide +kernel
  have h1 : ∀ q : Fin 36, (BitVec.ofNat 32 q.val).toNat = q.val := by decide +kernel
  funext a
  match a with
  | ⟨0, _⟩ => exact h0 (i 0)
  | ⟨1, _⟩ => exact h1 (i 1)

/-- Head 3 of the group reads its own flag of the pair. -/
theorem flag3 (c : Dev nD) (t : Fin grid0.N) (H : Fin 16) (hH : H.val = 4 * (grid0.coords t 0).val + 3) :
    rdS3 (F := Ideal) c (grid0.coords t) (tbl m 2) = flags m (ix2 H (grid0.coords t 1 : Fin 36)) := by
  rw [tbl_s]
  unfold rdS3
  rw [View.readAt_eq_ld]
  refine congrArg (flags m) ?_
  have e := flagOff3 (grid0.coords t)
  generalize hz : (Shape.Idx.first (s := S1x1) (numel1_S1x1.symm ▸ Nat.one_pos)) = z
  have z0 : (z 0).val = 0 := Nat.lt_one_iff.mp (z 0).isLt
  have z1 : (z 1).val = 0 := Nat.lt_one_iff.mp (z 1).isLt
  funext a
  apply Fin.ext
  match a with
  | ⟨0, _⟩ =>
    show k0_off5 (grid0.coords t) 0 + 1 * (z 0).val = H.val
    rw [e, z0, hH]; rfl
  | ⟨1, _⟩ =>
    show k0_off5 (grid0.coords t) 1 + 1 * (z 1).val = (grid0.coords t 1).val
    rw [e, z1]; rfl

end Cert.KernelIdeal.Gen
-- ==== Proof.VFold.lean ====
module

public import proofs.«01_k».proof.Proof.VPoint

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-! ## Queries against keys, over the arrays -/

/-- The array of queries and keys as the region finds it. -/
def qkA (c : Dev nD) : Vec Ideal S8192x4096 .bf16 := V m c main_arg0
/-- The array of values. -/
def vA (c : Dev nD) : Vec Ideal S8192x2048 .bf16 := V m c main_arg1
/-- The query side's gates' sums, less the shift. -/
def fcA (c : Dev nD) : Vec Ideal S16x8192x1 .f32 := V m c main_v13
/-- The key side's gates' sums. -/
def frA (c : Dev nD) : Vec Ideal S16x1x8192 .f32 := V m c main_v14
/-- The input blocks of a point. -/
def b0 (hO : Ok m) (c : Dev nD) (t : Fin grid0.N) : Vec Ideal S1024x512 .bf16 := iblk m hO c 0 t
def b1 (hO : Ok m) (c : Dev nD) (t : Fin grid0.N) : Vec Ideal S1024x512 .bf16 := iblk m hO c 1 t
def b2 (hO : Ok m) (c : Dev nD) (t : Fin grid0.N) : Vec Ideal S1024x512 .bf16 := iblk m hO c 2 t
def b3 (hO : Ok m) (c : Dev nD) (t : Fin grid0.N) : Vec Ideal S4x1024x1 .f32 := iblk m hO c 3 t
def b4 (hO : Ok m) (c : Dev nD) (t : Fin grid0.N) : Vec Ideal S4x1x1024 .f32 := iblk m hO c 4 t

/-- The pair of query block `a` and key block `b`. -/
def pairOf (a b : ℕ) : Fin 36 := ⟨(a * (a + 1) / 2 + (a - b)) % 36, Nat.mod_lt _ (by decide)⟩

/-- Key `j` weighs for query `i` in head `H`: it is not later, and it is in the query's block or its block's pair is not flagged. -/
def live (H : Fin 16) (i j : Fin 8192) : Prop :=
  j.val ≤ i.val ∧ (j.val / 1024 = i.val / 1024 ∨ flags m (ix2 H (pairOf (i.val / 1024) (j.val / 1024))) = (0#32 : BitVec 32))

open Classical in
instance (H : Fin 16) (i j : Fin 8192) : Decidable (live m H i j) := Classical.dec _

/-- The exponent, to the base two, of query `i` and key `j` in head `H`. -/
def sK (c : Dev nD) (H : Fin 16) (i j : Fin 8192) : EReal :=
  (∑ d : Fin 128, qkA m c (ix2 i ⟨128 * H.val + d.val, by omega⟩) *
    qkA m c (ix2 j ⟨2048 + 128 * H.val + d.val, by omega⟩)) * cScale
  + fcA m c (ix3 H i 0) * cLog - frA m c (ix3 H 0 j) * cLog

/-- The value's lane of key `j`, or one beyond the values' lanes. -/
def vE (c : Dev nD) (H : Fin 16) (j : Fin 8192) (l : Fin 256) : EReal :=
  if hl : l.val < 128 then vA m c (ix2 j ⟨128 * H.val + l.val, by omega⟩) else 1

/-- What key `j` adds to lane `l` of query `i`. -/
def gK (c : Dev nD) (H : Fin 16) (i : Fin 8192) (l : Fin 256) (j : Fin 8192) : EReal :=
  if live m H i j then Ideal.exp2 (sK m c H i j) * vE m c H j l else 0

/-- The same over the naturals. -/
def gN (c : Dev nD) (H : Fin 16) (i : Fin 8192) (l : Fin 256) (j : ℕ) : EReal :=
  if h : j < 8192 then gK m c H i l ⟨j, h⟩ else 0

/-- What key block `b` adds. -/
def tB (c : Dev nD) (H : Fin 16) (i : Fin 8192) (l : Fin 256) (b : ℕ) : EReal := ∑ x : Fin 1024, gN m c H i l (1024 * b + x.val)

/-! ## One point -/

theorem isDiag_iff (w1 w3 : BitVec 32) : isDiag w1 w3 ↔ w3 = w1 := by
  unfold isDiag
  by_cases h : w3 = w1
  · subst h; simp [Scalar.cmpi, Scalar.extui, IntOp.cmpi]
  · have e : (w3 == w1) = false := by simpa using h
    simp [h, e, Scalar.cmpi, Scalar.extui, IntOp.cmpi]

theorem isLive_iff (w1 w3 s : BitVec 32) : isLive w1 w3 s ↔ w3 ≠ w1 ∧ s = 0#32 := by
  unfold isLive
  by_cases h : w3 = w1
  · subst h; simp [Scalar.cmpi, Scalar.extui, Scalar.andi, IntOp.cmpi, IntOp.andi]
  · have e : (w3 != w1) = true := by simpa using h
    by_cases h' : s = 0#32
    · subst h'; simp [h, e, Scalar.cmpi, Scalar.extui, Scalar.andi, IntOp.cmpi, IntOp.andi]
    · have e' : (s == 0#32) = false := by simpa using h'
      simp [h, h', e, e', Scalar.cmpi, Scalar.extui, Scalar.andi, IntOp.cmpi, IntOp.andi]

theorem lit_eq_iff (p : Fin 36) : lit1 p = lit0 p ↔ kB p = qB p := by
  unfold kB qB; exact BitVec.toNat_inj.symm

theorem pair_facts : ∀ p : Fin 36, kB p ≤ qB p ∧ qB p < 8 ∧ p = pairOf (qB p) (kB p) := by decide +kernel

/-- One head's off-diagonal part at coordinates. -/
theorem accH_apply (h' : Fin 4) (w1 w3 s : BitVec 32) (x0 x1 x2 : Vec Ideal S1024x512 .bf16) (x3 : Vec Ideal S4x1024x1 .f32)
    (x4 : Vec Ideal S4x1x1024 .f32) (acc : Vec Ideal S4x1024x256 .f32) (h : Fin 4) (R : Fin 1024) (l : Fin 256) :
    accH h' w1 w3 s x0 x1 x2 x3 x4 acc (ix3 h R l) = if h = h' ∧ w3 ≠ w1 ∧ s = 0#32
      then acc (ix3 h R l) + ∑ c, Ideal.exp2 (sc x0 x1 x3 x4 h R c) * ve x2 h c l else acc (ix3 h R l) := by
  unfold accH
  by_cases hs : isLive w1 w3 s
  · rw [if_pos hs, updH_apply]
    have := (isLive_iff _ _ _).mp hs
    simp [this]
  · rw [if_neg hs]
    have := mt (isLive_iff w1 w3 s).mpr hs
    rw [if_neg (fun h => this h.2)]

/-- The flag of a head of the group. -/
def pick (s0 s1 s2 s3 : BitVec 32) : Fin 4 → BitVec 32
  | 0 => s0 | 1 => s1 | 2 => s2 | 3 => s3

/-- The four heads' off-diagonal parts: each head's own. -/
theorem accHs_apply (w1 w3 s0 s1 s2 s3 : BitVec 32) (x0 x1 x2 : Vec Ideal S1024x512 .bf16) (x3 : Vec Ideal S4x1024x1 .f32)
    (x4 : Vec Ideal S4x1x1024 .f32) (acc : Vec Ideal S4x1024x256 .f32) (h : Fin 4) (R : Fin 1024) (l : Fin 256) :
    accH 3 w1 w3 s3 x0 x1 x2 x3 x4 (accH 2 w1 w3 s2 x0 x1 x2 x3 x4 (accH 1 w1 w3 s1 x0 x1 x2 x3 x4 (accH 0 w1 w3 s0 x0 x1 x2 x3 x4 acc))) (ix3 h R l)
      = if w3 ≠ w1 ∧ pick s0 s1 s2 s3 h = 0#32
        then acc (ix3 h R l) + ∑ c, Ideal.exp2 (sc x0 x1 x3 x4 h R c) * ve x2 h c l else acc (ix3 h R l) := by
  simp only [accH_apply]
  match h with
  | 0 => simp [pick]; exact if_congr Iff.rfl rfl rfl
  | 1 => simp [pick]; exact if_congr Iff.rfl rfl rfl
  | 2 => simp [pick]; exact if_congr Iff.rfl rfl rfl
  | 3 => simp [pick]; exact if_congr Iff.rfl rfl rfl

/-- The point's exponents and values are the arrays'. -/
theorem sc_eq (hO : Ok m) (c : Dev nD) (t : Fin grid0.N) (h : Fin 4) (R x : Fin 1024) (H : Fin 16) (i j : Fin 8192)
    (hH : H.val = 4 * (grid0.coords t 0).val + h.val) (hi : i.val = 1024 * qB (grid0.coords t 1) + R.val)
    (hj : j.val = 1024 * kB (grid0.coords t 1) + x.val) :
    sc (b0 m hO c t) (b1 m hO c t) (b3 m hO c t) (b4 m hO c t) h R x = sK m c H i j := by
  unfold sc sK
  have e3 : b3 m hO c t (ix3 h R 0) = fcA m c (ix3 H i 0) := read3 m hO c t h R H i hH hi
  have e4 : b4 m hO c t (ix3 h 0 x) = frA m c (ix3 H 0 j) := read4 m hO c t h x H j hH hj
  have e0 : ∀ d : Fin 128, b0 m hO c t (ix2 R ⟨128 * h.val + d.val, by omega⟩) = qkA m c (ix2 i ⟨128 * H.val + d.val, by omega⟩) :=
    fun d => read0 m hO c t R ⟨128 * h.val + d.val, by omega⟩ i ⟨128 * H.val + d.val, by omega⟩ hi (by simp only; omega)
  have e1 : ∀ d : Fin 128, b1 m hO c t (ix2 x ⟨128 * h.val + d.val, by omega⟩) = qkA m c (ix2 j ⟨2048 + 128 * H.val + d.val, by omega⟩) :=
    fun d => read1 m hO c t x ⟨128 * h.val + d.val, by omega⟩ j ⟨2048 + 128 * H.val + d.val, by omega⟩ hj (by simp only; omega)
  simp only [e0, e1, e3, e4]

theorem ve_eq (hO : Ok m) (c : Dev nD) (t : Fin grid0.N) (h : Fin 4) (x : Fin 1024) (l : Fin 256) (H : Fin 16) (j : Fin 8192)
    (hH : H.val = 4 * (grid0.coords t 0).val + h.val)
    (hj : j.val = 1024 * kB (grid0.coords t 1) + x.val) :
    ve (b2 m hO c t) h x l = vE m c H j l := by
  unfold ve vE
  by_cases hl : l.val < 128
  · have e2 : b2 m hO c t (ix2 x ⟨128 * h.val + l.val, by omega⟩) = vA m c (ix2 j ⟨128 * H.val + l.val, by omega⟩) :=
      read2 m hO c t x _ j _ hj (by simp only; omega)
    simp only [hl, dite_true]
    exact e2
  · simp only [hl, dite_false]

/-- Each head of the group reads its own flag of the pair. -/
theorem flag_pick (c : Dev nD) (t : Fin grid0.N) (h : Fin 4) (H : Fin 16) (hH : H.val = 4 * (grid0.coords t 0).val + h.val) :
    pick (rdS0 (F := Ideal) c (grid0.coords t) (tbl m 2)) (rdS1 (F := Ideal) c (grid0.coords t) (tbl m 2))
        (rdS2 (F := Ideal) c (grid0.coords t) (tbl m 2)) (rdS3 (F := Ideal) c (grid0.coords t) (tbl m 2)) h
      = flags m (ix2 H (grid0.coords t 1 : Fin 36)) := by
  have f0 := flag0 m c t H
  have f1 := flag1 m c t H
  have f2 := flag2 m c t H
  have f3 := flag3 m c t H
  generalize flags m (ix2 H (grid0.coords t 1 : Fin 36)) = w at *
  generalize rdS0 (F := Ideal) c (grid0.coords t) (tbl m 2) = r0 at *
  generalize rdS1 (F := Ideal) c (grid0.coords t) (tbl m 2) = r1 at *
  generalize rdS2 (F := Ideal) c (grid0.coords t) (tbl m 2) = r2 at *
  generalize rdS3 (F := Ideal) c (grid0.coords t) (tbl m 2) = r3 at *
  match h, hH with
  | 0, hH => exact f0 hH
  | 1, hH => exact f1 hH
  | 2, hH => exact f2 hH
  | 3, hH => exact f3 hH

/-- One point: the accumulator, cleared where the key block is the query block, plus what the key block adds. -/
theorem accStep_apply (hO : Ok m) (c : Dev nD) (t : Fin grid0.N) (acc : Vec Ideal S4x1024x256 .f32) (h : Fin 4) (R : Fin 1024) (l : Fin 256)
    (H : Fin 16) (i : Fin 8192) (hH : H.val = 4 * (grid0.coords t 0).val + h.val) (hi : i.val = 1024 * qB (grid0.coords t 1) + R.val) :
    accStep m hO c t acc (ix3 h R l) =
      (if kB (grid0.coords t 1) = qB (grid0.coords t 1) then 0 else acc (ix3 h R l)) + tB m c H i l (kB (grid0.coords t 1)) := by
  obtain ⟨hle, hq, hp⟩ := pair_facts (grid0.coords t 1)
  have hT : tB m c H i l (kB (grid0.coords t 1)) = ∑ x : Fin 1024,
      if live m H i ⟨1024 * kB (grid0.coords t 1) + x.val, by omega⟩ then
        Ideal.exp2 (sc (b0 m hO c t) (b1 m hO c t) (b3 m hO c t) (b4 m hO c t) h R x) * ve (b2 m hO c t) h x l else 0 := by
    unfold tB
    refine Finset.sum_congr rfl fun x _ => ?_
    unfold gN
    rw [dif_pos (show 1024 * kB (grid0.coords t 1) + x.val < 8192 by omega)]
    unfold gK
    rw [sc_eq m hO c t h R x H i ⟨1024 * kB (grid0.coords t 1) + x.val, by omega⟩ hH hi rfl,
      ve_eq m hO c t h x l H ⟨1024 * kB (grid0.coords t 1) + x.val, by omega⟩ hH rfl]
  rw [hT]
  have hiq : i.val / 1024 = qB (grid0.coords t 1) := by omega
  have hjq : ∀ x : Fin 1024, (1024 * kB (grid0.coords t 1) + x.val) / 1024 = kB (grid0.coords t 1) := fun x => by omega
  have hlive : ∀ x : Fin 1024, live m H i ⟨1024 * kB (grid0.coords t 1) + x.val, by omega⟩ ↔
      1024 * kB (grid0.coords t 1) + x.val ≤ 1024 * qB (grid0.coords t 1) + R.val ∧
      (kB (grid0.coords t 1) = qB (grid0.coords t 1) ∨ flags m (ix2 H (grid0.coords t 1 : Fin 36)) = (0#32 : BitVec 32)) := by
    intro x
    unfold live
    simp only [hiq, hjq x]
    rw [← hp, hi]
  have hstep : accStep m hO c t acc = accPt (lit0 (grid0.coords t 1)) (lit1 (grid0.coords t 1)) (rdS0 c (grid0.coords t) (tbl m 2)) (rdS1 c (grid0.coords t) (tbl m 2))
      (rdS2 c (grid0.coords t) (tbl m 2)) (rdS3 c (grid0.coords t) (tbl m 2)) (b0 m hO c t) (b1 m hO c t) (b2 m hO c t) (b3 m hO c t) (b4 m hO c t) acc := by
    unfold accStep
    rw [rdQ_eq, rdK_eq]
    rfl
  rw [hstep]
  unfold accPt
  rw [accHs_apply]
  unfold accD accZ
  by_cases hd : kB (grid0.coords t 1) = qB (grid0.coords t 1)
  · have hl := (lit_eq_iff _).mpr hd
    have hdg := (isDiag_iff _ _).mpr hl
    rw [if_neg (fun h => h.1 hl)]
    rw [if_pos hdg, if_pos hdg, if_pos hd, updD_apply, pay78_apply]
    congr 1
    refine Finset.sum_congr rfl fun x _ => ?_
    by_cases hx : x.val ≤ R.val
    · rw [if_pos hx, if_pos ((hlive x).mpr ⟨by omega, Or.inl hd⟩)]
    · rw [if_neg hx, if_neg (fun h => hx (by have := ((hlive x).mp h).1; omega))]
  · have hl := mt (lit_eq_iff _).mp hd
    have hdg := mt (isDiag_iff (lit0 (grid0.coords t 1)) _).mp hl
    rw [if_neg hdg, if_neg hdg, if_neg hd]
    have hx : ∀ x : Fin 1024, live m H i ⟨1024 * kB (grid0.coords t 1) + x.val, by omega⟩ ↔ flags m (ix2 H (grid0.coords t 1 : Fin 36)) = (0#32 : BitVec 32) := by
      intro x
      rw [hlive]
      constructor
      · rintro ⟨_, h | h⟩
        · exact absurd h hd
        · exact h
      · exact fun h => ⟨by omega, Or.inr h⟩
    have hsum : ∀ f : Fin 1024 → EReal, (∑ x : Fin 1024, if live m H i ⟨1024 * kB (grid0.coords t 1) + x.val, by omega⟩ then f x else 0)
        = ∑ x, if flags m (ix2 H (grid0.coords t 1 : Fin 36)) = (0#32 : BitVec 32) then f x else 0 := by
      intro f
      refine Finset.sum_congr rfl fun x _ => ?_
      by_cases h0 : flags m (ix2 H (grid0.coords t 1 : Fin 36)) = (0#32 : BitVec 32)
      · rw [if_pos h0, if_pos ((hx x).mpr h0)]
      · rw [if_neg h0, if_neg (fun h => h0 ((hx x).mp h))]
    rw [hsum]
    have key : ∀ s : BitVec 32, s = flags m (ix2 H (grid0.coords t 1 : Fin 36)) → ∀ (a : EReal) (f : Fin 1024 → EReal),
        (if s = 0#32 then a + ∑ x, f x else a) = a + ∑ x, if flags m (ix2 H (grid0.coords t 1 : Fin 36)) = (0#32 : BitVec 32) then f x else 0 := by
      intro s hs a f
      rw [hs]
      by_cases h0 : flags m (ix2 H (grid0.coords t 1 : Fin 36)) = (0#32 : BitVec 32)
      · simp only [if_pos h0]
      · simp only [if_neg h0, Finset.sum_const_zero, add_zero]
    have fl := flag_pick m c t h H hH
    rw [← key _ fl]
    refine if_congr ?_ rfl rfl
    exact and_iff_right hl

/-! ## All the points of a query block -/

theorem coords_facts : ∀ t : Fin grid0.N, (grid0.coords t 0).val = t.val / 36 ∧ (grid0.coords t 1).val = t.val % 36 := by decide +kernel

theorem pair_at : ∀ a k : Fin 8, k.val ≤ a.val → ∀ p : Fin 36, p.val = a.val * (a.val + 1) / 2 + k.val → qB p = a.val ∧ kB p = a.val - k.val := by
  decide +kernel

/-- After a query block's first `k + 1` points: what its last `k + 1` key blocks up to the diagonal add. -/
theorem accs_run (hO : Ok m) (c : Dev nD) (g : Fin 4) (a : Fin 8) (h : Fin 4) (R : Fin 1024) (l : Fin 256)
    (H : Fin 16) (i : Fin 8192) (hH : H.val = 4 * g.val + h.val) (hi : i.val = 1024 * a.val + R.val) :
    ∀ k : ℕ, k ≤ a.val → accs m hO c (36 * g.val + a.val * (a.val + 1) / 2 + k + 1) (ix3 h R l)
      = ∑ s ∈ Finset.range (k + 1), tB m c H i l (a.val - s) := by
  have ha : a.val * (a.val + 1) / 2 + a.val < 36 := by
    have : ∀ a : Fin 8, a.val * (a.val + 1) / 2 + a.val < 36 := by decide
    exact this a
  intro k
  induction k with
  | zero =>
    intro _
    have hN : 36 * g.val + a.val * (a.val + 1) / 2 + 0 < grid0.N := by show _ < 144; omega
    obtain ⟨c0, c1⟩ := coords_facts ⟨_, hN⟩
    obtain ⟨hq, hk⟩ := pair_at a 0 (Nat.zero_le _) (grid0.coords ⟨_, hN⟩ 1) (by rw [c1]; simp only [Fin.val_zero]; omega)
    have e := accs_succ m hO c ⟨_, hN⟩
    rw [show accs m hO c (36 * g.val + a.val * (a.val + 1) / 2 + 0 + 1) = _ from e,
      accStep_apply m hO c ⟨_, hN⟩ _ h R l H i (by rw [c0, hH]; simp only; omega) (by rw [hq, hi])]
    rw [hk, hq]
    simp
  | succ k ih =>
    intro hka
    have hN : 36 * g.val + a.val * (a.val + 1) / 2 + (k + 1) < grid0.N := by show _ < 144; omega
    obtain ⟨c0, c1⟩ := coords_facts ⟨_, hN⟩
    obtain ⟨hq, hk⟩ := pair_at a ⟨k + 1, by omega⟩ hka (grid0.coords ⟨_, hN⟩ 1) (by rw [c1]; simp only; omega)
    have e := accs_succ m hO c ⟨_, hN⟩
    rw [show accs m hO c (36 * g.val + a.val * (a.val + 1) / 2 + (k + 1) + 1) = _ from e,
      accStep_apply m hO c ⟨_, hN⟩ _ h R l H i (by rw [c0, hH]; simp only; omega) (by rw [hq, hi])]
    rw [hk, hq, if_neg (by simp only; omega), Finset.sum_range_succ _ (k + 1)]
    congr 1
    exact ih (by omega)

/-- The blocks' keys are the first `1024 n` keys. -/
theorem sum_blocks (f : ℕ → EReal) (n : ℕ) :
    (∑ b ∈ Finset.range n, ∑ x : Fin 1024, f (1024 * b + x.val)) = ∑ j ∈ Finset.range (1024 * n), f j := by
  induction n with
  | zero => simp
  | succ n ih =>
    rw [Finset.sum_range_succ, ih, Nat.mul_succ, Finset.sum_range_add, Finset.sum_range (fun x => f (1024 * n + x))]

/-- After all of a query block's points: the sum over all keys. -/
theorem accs_total (hO : Ok m) (c : Dev nD) (g : Fin 4) (a : Fin 8) (h : Fin 4) (R : Fin 1024) (l : Fin 256)
    (H : Fin 16) (i : Fin 8192) (hH : H.val = 4 * g.val + h.val) (hi : i.val = 1024 * a.val + R.val) :
    accs m hO c (36 * g.val + a.val * (a.val + 1) / 2 + a.val + 1) (ix3 h R l) = ∑ j : Fin 8192, gK m c H i l j := by
  rw [accs_run m hO c g a h R l H i hH hi a.val le_rfl]
  have e := Finset.sum_range_reflect (fun b => tB m c H i l b) (a.val + 1)
  simp only [Nat.add_sub_cancel] at e
  rw [e]
  unfold tB
  rw [sum_blocks]
  have hsub : Finset.range (1024 * (a.val + 1)) ⊆ Finset.range 8192 := by
    intro x hx
    rw [Finset.mem_range] at hx ⊢
    omega
  rw [Finset.sum_subset hsub, Finset.sum_range]
  · refine Finset.sum_congr rfl fun j _ => ?_
    unfold gN
    rw [dif_pos j.isLt]
  · intro j hj hj'
    rw [Finset.mem_range] at hj hj'
    unfold gN gK
    rw [dif_pos hj, if_neg]
    intro hl
    have := hl.1
    simp only at this
    omega

end Cert.KernelIdeal.Gen
-- ==== Proof.VArray.lean ====
module

public import proofs.«01_k».proof.Proof.VFold
public import Idealize.ShloMosaic.Lib.Pipeline.Covers

@[expose] public section

set_option maxRecDepth 16384

noncomputable section

namespace Cert.KernelIdeal.Gen

open Idealize.ShloMosaic Idealize.ShloMosaic.TcCoe Idealize.SL.Sem
open Idealize.ShloMosaic.Pipeline (Dat Cfg Window BodyObligation cellOf)

variable (m : (ℓ : Loc nD τ sig) → Buf (Elt Ideal) ℓ)

/-- The output of query `i` in head `H`, lane `d`: the weighted sum of the values over the sum of the weights. -/
def outK (c : Dev nD) (i : Fin 8192) (H : Fin 16) (d : Fin 128) : EReal :=
  Ideal.div (∑ j : Fin 8192, gK m c H i ⟨d.val, by omega⟩ j) (∑ j : Fin 8192, gK m c H i ⟨128 + d.val, by omega⟩ j)

/-- The output array. -/
def outA (c : Dev nD) : Vec Ideal S8192x2048 .bf16 := fun x =>
  outK m c (x 0) ⟨(x 1).val / 128, by have h : (x 1).val < 2048 := (x 1).isLt; omega⟩ ⟨(x 1).val % 128, Nat.mod_lt _ (by decide)⟩

theorem outA_apply (c : Dev nD) (i : Fin 8192) (H : Fin 16) (d : Fin 128) (j : Fin 2048) (hj : j.val = 128 * H.val + d.val) :
    outA m c (ix2 i j) = outK m c i H d := by
  have e1 : (⟨j.val / 128, by omega⟩ : Fin 16) = H := Fin.ext (by simp only; omega)
  have e2 : (⟨j.val % 128, Nat.mod_lt _ (by decide)⟩ : Fin 128) = d := Fin.ext (by simp only; omega)
  show outK m c i ⟨j.val / 128, _⟩ ⟨j.val % 128, _⟩ = _
  rw [e1, e2]

/-- The points that write the output back are the last of their query blocks. -/
theorem last_facts : ∀ t : Fin grid0.N, k0_cond7 (lit1 (grid0.coords t 1)) = 1#1 →
    t.val = 36 * (grid0.coords t 0).val + qB (grid0.coords t 1) * (qB (grid0.coords t 1) + 1) / 2 + qB (grid0.coords t 1) ∧ qB (grid0.coords t 1) < 8 := by
  decide +kernel

/-- The point that ends query block `a` of head group `g`. -/
def cover5_at (g : ℕ) (hg : g < 4) (a : ℕ) : grid0.Coords :=
  fun k => match k with | ⟨0, _⟩ => (⟨g, hg⟩ : Fin 4) | ⟨1, _⟩ => (pairOf a 0 : Fin 36)

/-- Every block of the output is some point's. -/
theorem cover5 (hO : Ok m) : ((cfgM m hO).win 5).Covers := by
  have hq : ∀ a : Fin 8, qB (pairOf a.val 0) = a.val := by decide +kernel
  have hs : ∀ a : Fin 2, 0 < S1024x512.size a := by decide
  refine ((cfgM m hO).win 5).covers_of_indexMap_surj rfl hs fun β => ?_
  have n0 : ((cfgM m hO).win 5).nblk ⟨0, Nat.zero_lt_two⟩ = 8 := (by decide : (8192 + 1024 - 1) / 1024 = 8)
  have n1 : ((cfgM m hO).win 5).nblk ⟨1, Nat.one_lt_two⟩ = 4 := (by decide : (2048 + 512 - 1) / 512 = 4)
  have h0 : (β ⟨0, Nat.zero_lt_two⟩).val < 8 := n0 ▸ (β ⟨0, Nat.zero_lt_two⟩).isLt
  have h1 : (β ⟨1, Nat.one_lt_two⟩).val < 4 := n1 ▸ (β ⟨1, Nat.one_lt_two⟩).isLt
  refine ⟨cover5_at (β ⟨1, Nat.one_lt_two⟩).val h1 (β ⟨0, Nat.zero_lt_two⟩).val, fun a => ?_⟩
  refine (congrFun (tr5 m _) a).trans ?_
  match a with
  | ⟨0, _⟩ => exact hq ⟨_, h0⟩
  | ⟨1, _⟩ => rfl

/-- The block a point writes back, at coordinates. -/
theorem block5 (hO : Ok m) (c : Dev nD) (t : Fin grid0.N) (hl : k0_cond7 (lit1 (grid0.coords t 1)) = 1#1) (R : Fin 1024) (D : Fin 512)
    (i : Fin 8192) (j : Fin 2048) (hi : i.val = 1024 * qB (grid0.coords t 1) + R.val) (hj : j.val = 512 * (grid0.coords t 0).val + D.val) :
    outF (accs m hO c (t.val + 1)) (ix2 R D) = outA m c (ix2 i j) := by
  obtain ⟨ht, hq⟩ := last_facts t hl
  obtain ⟨g, hg⟩ : ∃ g : Fin 4, g.val = (grid0.coords t 0).val := ⟨⟨_, (grid0.coords t 0).isLt⟩, rfl⟩
  obtain ⟨h, hh⟩ : ∃ h : Fin 4, h.val = D.val / 128 := ⟨⟨D.val / 128, by omega⟩, rfl⟩
  obtain ⟨d, hd⟩ : ∃ d : Fin 128, d.val = D.val % 128 := ⟨⟨D.val % 128, by omega⟩, rfl⟩
  obtain ⟨H, hH⟩ : ∃ H : Fin 16, H.val = 4 * g.val + h.val := ⟨⟨4 * g.val + h.val, by omega⟩, rfl⟩
  have eD : D = ⟨128 * h.val + d.val, by omega⟩ := Fin.ext (by simp only; omega)
  rw [outA_apply m c i H d j (by omega), eD, outF_apply, ht, ← hg]
  unfold outK
  rw [accs_total m hO c g ⟨_, hq⟩ h R ⟨d.val, by omega⟩ H i hH hi, accs_total m hO c g ⟨_, hq⟩ h R ⟨128 + d.val, by omega⟩ H i hH hi]

/-- The same at the block's own indices. -/
theorem block5_emb (hO : Ok m) (c : Dev nD) (t : Fin grid0.N) (hl : k0_cond7 (lit1 (grid0.coords t 1)) = 1#1) (y : S1024x512.Idx) :
    outF (accs m hO c (t.val + 1)) y = outA m c ((((cfgM m hO).win 5).blk t).view.emb y) := by
  have e5 := index5 m hO t
  have hq := (last_facts t hl).2
  have hg : (grid0.coords t 0).val < 4 := (grid0.coords t 0).isLt
  have y0 : (y 0).val < 1024 := (y 0).isLt
  have y1 : (y 1).val < 512 := (y 1).isLt
  have b := block5 m hO c t hl ⟨(y 0).val, y0⟩ ⟨(y 1).val, y1⟩ ⟨1024 * qB (grid0.coords t 1) + (y 0).val, by omega⟩
    ⟨512 * (grid0.coords t 0).val + (y 1).val, by omega⟩ rfl rfl
  have ey : (ix2 ⟨(y 0).val, y0⟩ ⟨(y 1).val, y1⟩ : S1024x512.Idx) = y := by
    funext a
    match a with
    | ⟨0, _⟩ => rfl
    | ⟨1, _⟩ => rfl
  rw [ey] at b
  refine b.trans (congrArg (outA m c) ?_)
  blk_ext [e5]

/-- The output array after the run. -/
theorem final5 (hO : Ok m) (c : Dev nD) : (dats m hO 0 c).arrAt 5 (cfgM m hO).N = outA m c := by
  refine (dats m hO 0 c).arrAt_eq_of_covers 5 (outA m c) (cover5 m hO) fun t hf y => ?_
  have hl : k0_cond7 (lit1 (grid0.coords t 1)) = 1#1 := by
    by_contra h
    rw [flush5_idle m hO t h] at hf
    exact absurd hf (by decide)
  have hafter : (dats m hO 0 c).after 5 t = outF (accs m hO c (t.val + 1)) := rfl
  have e5 := index5 m hO t
  blk_simp
  rw [hafter]
  exact block5_emb m hO c t hl y

end Cert.KernelIdeal.Gen
-- ==== Proof.VHost.lean ====
module

public import proofs.«01_k».proof.Proof.VFold
public import Idealize.ShloMosaic.Lib.Claim

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The gates' sums, as given. -/
def argF (c : Dev nD) : Vec Ideal S8192x128 .f32 := m (c, Proc.tc.devRef main_arg2)
/-- The queries' gain. -/
def argGq (c : Dev nD) : Vec Ideal S128 .f32 := m (c, Proc.tc.devRef main_arg3)
/-- The keys' gain. -/
def argGk (c : Dev nD) : Vec Ideal S128 .f32 := m (c, Proc.tc.devRef main_arg4)

/-- The greatest absolute value of a gain. -/
def maxAbs (g : FVec Ideal S128 .f32) : EReal :=
  Finset.fold max (Ideal.ofBits FTy.f32 0xFF800000#32) (fun d : Fin 128 => max (g (ix1 d)) (-g (ix1 d))) Finset.univ

/-- The shift of the scores. -/
def shiftE (gq gk : Vec Ideal S128 .f32) : EReal :=
  Ideal.ofBits FTy.f32 1124073472#32 * maxAbs gq * maxAbs gk * Ideal.ofBits FTy.f32 1065520988#32 * Ideal.ofBits FTy.f32 1035273459#32 * Ideal.ofBits FTy.f32 1069066811#32

theorem host_row (x : FVec Ideal S8192x128 .f32) (H : Fin 16) (j : Fin 8192) :
    (broadcastInDim S16x1x8192 ![0, 2] bcast_S16x8192_S16x1x8192_0_2 (transpose S16x8192 [1, 0]
        (extractStridedSlice S8192x16 ![0, 0] x slices_S8192x128_S8192x16_0_0) transposes_S8192x16_S16x8192_1_0) : FVec Ideal S16x1x8192 .f32) (ix3 H 0 j)
      = x (ix2 j ⟨H.val, by omega⟩) := by
  pointwise []

theorem host_max (g : FVec Ideal S128 .f32) :
    (Host.reduce (FloatOps.maximumf (F := Ideal) (φ := .f32)) (Host.absf g) (constant (F := Ideal) S_ FTy.f32 4286578688#32) reducesTo_S128_S_d0 h_S_ : FVec Ideal S_ .f32) Idealize.ShloMosaic.ix0 = maxAbs g := by
  unfold maxAbs
  pointwise []
  rfl

theorem host_col (x : FVec Ideal S8192x128 .f32) (s : FVec Ideal S_ .f32) (H : Fin 16) (i : Fin 8192) :
    (broadcastInDim S16x8192x1 ![0, 1] bcast_S16x8192_S16x8192x1_0_1
      (subf (transpose S16x8192 [1, 0] (extractStridedSlice S8192x16 ![0, 0] x slices_S8192x128_S8192x16_0_0) transposes_S8192x16_S16x8192_1_0)
        (broadcastInDim S16x8192 ![] bcast_S_S16x8192 s)) : FVec Ideal S16x8192x1 .f32) (ix3 H i 0)
      = x (ix2 i ⟨H.val, by omega⟩) - s Idealize.ShloMosaic.ix0 := by
  pointwise []

theorem host_shift (x y : FVec Ideal S_ .f32) :
    (mulf (mulf (mulf (mulf (mulf (constant (F := Ideal) S_ FTy.f32 1124073472#32) x) y) (constant (F := Ideal) S_ FTy.f32 1065520988#32)) (constant (F := Ideal) S_ FTy.f32 1035273459#32)) (constant (F := Ideal) S_ FTy.f32 1069066811#32) : FVec Ideal S_ .f32) Idealize.ShloMosaic.ix0
      = Ideal.ofBits FTy.f32 1124073472#32 * x Idealize.ShloMosaic.ix0 * y Idealize.ShloMosaic.ix0 * Ideal.ofBits FTy.f32 1065520988#32 * Ideal.ofBits FTy.f32 1035273459#32 * Ideal.ofBits FTy.f32 1069066811#32 := by
  pointwise []

/-- The key side's gates' sums are those given. -/
theorem frA_apply (c : Dev nD) (H : Fin 16) (j : Fin 8192) : frA m c (ix3 H 0 j) = argF m c (ix2 j ⟨H.val, by omega⟩) := by
  unfold frA
  entry_read
  exact host_row (argF m c) H j

/-- The query side's gates' sums are those given, less the shift. -/
theorem fcA_apply (c : Dev nD) (H : Fin 16) (i : Fin 8192) : fcA m c (ix3 H i 0) = argF m c (ix2 i ⟨H.val, by omega⟩) - shiftE (argGq m c) (argGk m c) := by
  unfold fcA
  entry_read
  refine (host_col (argF m c) _ H i).trans (congrArg (argF m c (ix2 i ⟨H.val, by omega⟩) - ·) ?_)
  refine (host_shift _ _).trans ?_
  unfold shiftE
  rw [← host_max, ← host_max]
  rfl

/-- The queries and keys are those given. -/
theorem qkA_eq (c : Dev nD) : qkA m c = m (c, Proc.tc.devRef main_arg0) := by
  unfold qkA
  entry_read
  rfl

/-- The values are those given. -/
theorem vA_eq (c : Dev nD) : vA m c = m (c, Proc.tc.devRef main_arg1) := by
  unfold vA
  entry_read
  rfl

theorem max_coe (a b : ℝ) : max (a : EReal) (b : EReal) = ((max a b : ℝ) : EReal) := (EReal.coe_strictMono.monotone.map_max).symm

/-- A finite gain's greatest absolute value is finite. -/
theorem maxAbs_real (g : FVec Ideal S128 .f32) (hg : ∀ d : Fin 128, ∃ r : ℝ, g (ix1 d) = (r : EReal)) : ∃ r : ℝ, maxAbs g = (r : EReal) := by
  have hbits : Ideal.ofBits FTy.f32 0xFF800000#32 = ⊥ := by simp [Ideal.ofBits, Ideal.ieee]
  have hr : ∀ d : Fin 128, ∃ r : ℝ, max (g (ix1 d)) (-g (ix1 d)) = (r : EReal) := by
    intro d
    obtain ⟨r, hr⟩ := hg d
    exact ⟨max r (-r), by rw [hr, ← EReal.coe_neg]; exact max_coe _ _⟩
  have ht : maxAbs g < ⊤ := by
    unfold maxAbs
    rw [hbits, Finset.fold_max_lt]
    refine ⟨bot_lt_top, fun d _ => ?_⟩
    obtain ⟨r, h⟩ := hr d
    rw [h]
    exact EReal.coe_lt_top _
  have hb : ⊥ < maxAbs g := by
    unfold maxAbs
    rw [Finset.lt_fold_max]
    refine Or.inr ⟨0, Finset.mem_univ _, ?_⟩
    obtain ⟨r, h⟩ := hr 0
    rw [h]
    exact EReal.bot_lt_coe _
  exact ⟨_, (EReal.coe_toReal ht.ne hb.ne').symm⟩

theorem bits_real (w : BitVec 32) (h : (w.extractLsb' 23 8).toNat ≠ 2 ^ 8 - 1) : ∃ r : ℝ, Ideal.ofBits FTy.f32 w = (r : EReal) := by
  show ∃ r : ℝ, Ideal.ieee 8 23 w = (r : EReal)
  unfold Ideal.ieee
  rw [if_neg h]
  split
  · exact ⟨_, rfl⟩
  · exact ⟨_, rfl⟩

/-- Finite gains give a finite shift. -/
theorem shift_real (gq gk : Vec Ideal S128 .f32) (hq : ∀ d : Fin 128, ∃ r : ℝ, gq (ix1 d) = (r : EReal)) (hk : ∀ d : Fin 128, ∃ r : ℝ, gk (ix1 d) = (r : EReal)) :
    ∃ r : ℝ, shiftE gq gk = (r : EReal) := by
  obtain ⟨a, ha⟩ := maxAbs_real gq hq
  obtain ⟨b, hb⟩ := maxAbs_real gk hk
  obtain ⟨c1, h1⟩ := bits_real 1124073472#32 (by decide)
  obtain ⟨c2, h2⟩ := bits_real 1065520988#32 (by decide)
  obtain ⟨c3, h3⟩ := bits_real 1035273459#32 (by decide)
  obtain ⟨c4, h4⟩ := bits_real 1069066811#32 (by decide)
  exact ⟨c1 * a * b * c2 * c3 * c4, by unfold shiftE; rw [ha, hb, h1, h2, h3, h4]; push_cast; rfl⟩

end Cert.KernelIdeal.Gen

end
-- ==== Proof.VRef.lean ====
module

public import proofs.«01_k».proof.Proof.Gen.ReferenceIdeal.Run
public import Idealize.ShloMosaic.Lib.Pointwise
public import Idealize.ShloMosaic.Lib.Tactic

@[expose] public section

set_option maxRecDepth 16384

noncomputable section

namespace Cert.ReferenceIdeal.Value

open Idealize.ShloMosaic Idealize.ShloMosaic.TcCoe Idealize.SL.Sem Idealize.ShloMosaic.StableHlo

variable (V0 : Valuation τ sig (Elt Ideal))

/-- The query's block, the key's block, the pair, the masked scores and the weights, as arrays. -/
def rQb : Vec Ideal S8192x1 .i32 := res_main_v27 V0
def rKb : Vec Ideal S1x8192 .i32 := res_main_v29 V0
def rSq : Vec Ideal S8192x1 .i32 := res_main_v35 V0
def rPair : Vec Ideal S8192x8192 .i32 := res_main_v41 V0
def rS : Vec Ideal S16x8192x8192 .f32 := res_main_v61 V0
def rE : Vec Ideal S16x8192x8192 .f32 := res_main_v68 V0
def rFt : Vec Ideal S16x8192 .f32 := res_main_v9 V0
def rQK : Vec Ideal S8192x4096 .bf16 := V0 (Proc.devRef .tc main_arg0)
def rF : Vec Ideal S8192x128 .f32 := V0 (Proc.devRef .tc main_arg2)
def rSkip : Vec Ideal S16x36 .i32 := V0 (Proc.devRef .tc main_arg5)

/-- The host's floor division of words. -/
def fdivW (x n : BitVec 32) : BitVec 32 :=
  Scalar.select (IntOp.andi (IntOp.cmpi .ne (if x = 0 then (0 : BitVec 32) else if x.msb = true then -1 else 1) (if n = 0 then (0 : BitVec 32) else if n.msb = true then -1 else 1))
    (IntOp.cmpi .ne (IntOp.remsi ArithUnit.host x n) 0#32)) (IntOp.subi (IntOp.divsi ArithUnit.host x n) 1#32) (IntOp.divsi ArithUnit.host x n)

theorem fdivW_block : ∀ i : Fin 8192, fdivW (BitVec.ofNat 32 i.val) 1024#32 = BitVec.ofNat 32 (i.val / 1024) := by decide +kernel

theorem rQb_apply (i : Fin 8192) : rQb V0 (ix2 i 0) = BitVec.ofNat 32 (i.val / 1024) := by
  have e : rQb V0 = select (andi (cmpi .ne (signi (broadcastInDim S8192x1 ![0] Gen.bcast_S8192_S8192x1_0 (iotaInDim S8192 32 0))) (broadcastInDim S8192x1 ![] Gen.bcast_S_S8192x1 (signi (constantI S_ 32 1024#32)))) (cmpi .ne (Host.remsi (broadcastInDim S8192x1 ![0] Gen.bcast_S8192_S8192x1_0 (iotaInDim S8192 32 0)) (broadcastInDim S8192x1 ![] Gen.bcast_S_S8192x1 (constantI S_ 32 1024#32))) (broadcastInDim S8192x1 ![] Gen.bcast_S_S8192x1 (constantI S_ 32 0#32)))) (subi (Host.divsi (broadcastInDim S8192x1 ![0] Gen.bcast_S8192_S8192x1_0 (iotaInDim S8192 32 0)) (broadcastInDim S8192x1 ![] Gen.bcast_S_S8192x1 (constantI S_ 32 1024#32))) (broadcastInDim S8192x1 ![] Gen.bcast_S_S8192x1 (constantI S_ 32 1#32))) (Host.divsi (broadcastInDim S8192x1 ![0] Gen.bcast_S8192_S8192x1_0 (iotaInDim S8192 32 0)) (broadcastInDim S8192x1 ![] Gen.bcast_S_S8192x1 (constantI S_ 32 1024#32))) := rfl
  rw [e, ← fdivW_block i]
  pointwise [fdivW]

theorem rKb_apply (i : Fin 8192) : rKb V0 (ix2 0 i) = BitVec.ofNat 32 (i.val / 1024) := by
  have e : rKb V0 = select (andi (cmpi .ne (signi (broadcastInDim S1x8192 ![1] Gen.bcast_S8192_S1x8192_1 (iotaInDim S8192 32 0))) (broadcastInDim S1x8192 ![] Gen.bcast_S_S1x8192 (signi (constantI S_ 32 1024#32)))) (cmpi .ne (Host.remsi (broadcastInDim S1x8192 ![1] Gen.bcast_S8192_S1x8192_1 (iotaInDim S8192 32 0)) (broadcastInDim S1x8192 ![] Gen.bcast_S_S1x8192 (constantI S_ 32 1024#32))) (broadcastInDim S1x8192 ![] Gen.bcast_S_S1x8192 (constantI S_ 32 0#32)))) (subi (Host.divsi (broadcastInDim S1x8192 ![1] Gen.bcast_S8192_S1x8192_1 (iotaInDim S8192 32 0)) (broadcastInDim S1x8192 ![] Gen.bcast_S_S1x8192 (constantI S_ 32 1024#32))) (broadcastInDim S1x8192 ![] Gen.bcast_S_S1x8192 (constantI S_ 32 1#32))) (Host.divsi (broadcastInDim S1x8192 ![1] Gen.bcast_S8192_S1x8192_1 (iotaInDim S8192 32 0)) (broadcastInDim S1x8192 ![] Gen.bcast_S_S1x8192 (constantI S_ 32 1024#32))) := rfl
  rw [e, ← fdivW_block i]
  pointwise [fdivW]

theorem rSq_apply (i : Fin 8192) : rSq V0 (ix2 i 0) = IntOp.muli (rQb V0 (ix2 i 0)) (IntOp.addi (rQb V0 (ix2 i 0)) 1#32) := by
  have e : rSq V0 = muli (rQb V0) (addi (rQb V0) (broadcastInDim S8192x1 ![] Gen.bcast_S_S8192x1 (constantI S_ 32 1#32))) := rfl
  rw [e]
  pointwise []

/-- The pair's word. -/
def pairW (a b : BitVec 32) : BitVec 32 :=
  Scalar.select (IntOp.cmpi .slt b a) (IntOp.subi (IntOp.addi (fdivW (IntOp.muli a (IntOp.addi a 1#32)) 2#32) a) b) 0#32

theorem rPair_apply (i j : Fin 8192) : rPair V0 (ix2 i j) = pairW (BitVec.ofNat 32 (i.val / 1024)) (BitVec.ofNat 32 (j.val / 1024)) := by
  have e : rPair V0 = select (cmpi .slt (broadcastInDim S8192x8192 ![0, 1] Gen.bcast_S1x8192_S8192x8192_0_1 (rKb V0)) (broadcastInDim S8192x8192 ![0, 1] Gen.bcast_S8192x1_S8192x8192_0_1 (rQb V0))) (subi (broadcastInDim S8192x8192 ![0, 1] Gen.bcast_S8192x1_S8192x8192_0_1 (addi (select (andi (cmpi .ne (signi (rSq V0)) (broadcastInDim S8192x1 ![] Gen.bcast_S_S8192x1 (signi (constantI S_ 32 2#32)))) (cmpi .ne (Host.remsi (rSq V0) (broadcastInDim S8192x1 ![] Gen.bcast_S_S8192x1 (constantI S_ 32 2#32))) (broadcastInDim S8192x1 ![] Gen.bcast_S_S8192x1 (constantI S_ 32 0#32)))) (subi (Host.divsi (rSq V0) (broadcastInDim S8192x1 ![] Gen.bcast_S_S8192x1 (constantI S_ 32 2#32))) (broadcastInDim S8192x1 ![] Gen.bcast_S_S8192x1 (constantI S_ 32 1#32))) (Host.divsi (rSq V0) (broadcastInDim S8192x1 ![] Gen.bcast_S_S8192x1 (constantI S_ 32 2#32)))) (rQb V0))) (broadcastInDim S8192x8192 ![0, 1] Gen.bcast_S1x8192_S8192x8192_0_1 (rKb V0))) (broadcastInDim S8192x8192 ![] Gen.bcast_S_S8192x8192 (constantI S_ 32 0#32)) := rfl
  rw [e, ← rQb_apply V0, ← rKb_apply V0]
  pointwise [fdivW, pairW, rSq_apply]

theorem rFt_apply (H : Fin 16) (i : Fin 8192) : rFt V0 (ix2 H i) = rF V0 (ix2 i ⟨H.val, by omega⟩) := by
  have e : rFt V0 = transpose S16x8192 [1, 0] (extractStridedSlice S8192x16 ![0, 0] (rF V0) Gen.slices_S8192x128_S8192x16_0_0) Gen.transposes_S8192x16_S16x8192_1_0 := rfl
  rw [e]
  pointwise []

/-- The indices of the flags' table are not negative, so they stay as they are. -/
def wrapW (p : BitVec 32) : BitVec 32 := Scalar.select (IntOp.cmpi .slt p 0#32) (IntOp.addi p 36#32) p

/-- The pair of query block `a` and key block `b`. -/
def pairR (a b : ℕ) : Fin 36 := ⟨(a * (a + 1) / 2 + (a - b)) % 36, Nat.mod_lt _ (by decide)⟩

/-- Half of a square's word. -/
theorem fdivW_half : ∀ a : Fin 8, fdivW (IntOp.muli (BitVec.ofNat 32 a.val) (IntOp.addi (BitVec.ofNat 32 a.val) 1#32)) 2#32 = BitVec.ofNat 32 (a.val * (a.val + 1) / 2) := by
  decide +kernel

theorem wrapW_words : ∀ a b : Fin 8, b.val < a.val →
    min (wrapW (Scalar.select (IntOp.cmpi .slt (BitVec.ofNat 32 b.val) (BitVec.ofNat 32 a.val))
      (IntOp.subi (IntOp.addi (BitVec.ofNat 32 (a.val * (a.val + 1) / 2)) (BitVec.ofNat 32 a.val)) (BitVec.ofNat 32 b.val)) 0#32)).toInt.toNat 35 = (pairR a.val b.val).val := by
  decide +kernel

theorem wrapW_pair (a b : Fin 8) (h : b.val < a.val) : min (wrapW (pairW (BitVec.ofNat 32 a.val) (BitVec.ofNat 32 b.val))).toInt.toNat 35 = (pairR a.val b.val).val := by
  unfold pairW
  rw [fdivW_half]
  exact wrapW_words a b h

theorem slt_block : ∀ a b : Fin 8, IntOp.cmpi .slt (BitVec.ofNat 32 b.val) (BitVec.ofNat 32 a.val) = BitVec.ofBool (decide (b.val < a.val)) := by
  decide +kernel

theorem sle_word (i j : Fin 8192) : IntOp.cmpi .sle (BitVec.ofNat 32 j.val) (BitVec.ofNat 32 i.val) = BitVec.ofBool (decide (j.val ≤ i.val)) := by
  have hx' : (BitVec.ofNat 32 i.val).toInt = i.val := by rw [BitVec.toInt_eq_toNat_of_lt (by rw [BitVec.toNat_ofNat]; omega), BitVec.toNat_ofNat]; omega
  have hr' : (BitVec.ofNat 32 j.val).toInt = j.val := by rw [BitVec.toInt_eq_toNat_of_lt (by rw [BitVec.toNat_ofNat]; omega), BitVec.toNat_ofNat]; omega
  simp only [IntOp.cmpi]
  congr 1
  rw [BitVec.sle_eq_decide, hx', hr']
  congr 1
  apply propext
  omega

/-- The flags' table at an array of pairs: each head's row, at the pair clamped to the table. -/
theorem gather_apply (x : Vec Ideal S16x36 .i32) (idx : Vec Ideal S8192x8192x1 .i32) (H : Fin 16) (i j : Fin 8192) :
    (Host.gather gather_S16x36_S8192x8192x1_S16x8192x8192_0_1_n_n_1_2_161 x idx : Vec Ideal S16x8192x8192 .i32) (ix3 H i j)
      = x (ix2 H ⟨min (idx (ix3 i j 0)).toInt.toNat 35, by omega⟩) := by
  unfold Host.gather
  refine congrArg x ?_
  funext a
  apply Fin.ext
  match a with
  | ⟨0, _⟩ =>
    have e1 : (gather_S16x36_S8192x8192x1_S16x8192x8192_0_1_n_n_1_2_161).start (ix3 H i j) idx 0 = 0 := dif_neg (by decide)
    have e2 : (gather_S16x36_S8192x8192x1_S16x8192x8192_0_1_n_n_1_2_161).batchCoord (ix3 H i j) 0 = 0 := dif_neg (by decide)
    have e3 : (gather_S16x36_S8192x8192x1_S16x8192x8192_0_1_n_n_1_2_161).offCoord (ix3 H i j) 0 = H.val := (dif_pos (by decide)).trans rfl
    exact (congrArg₂ (· + ·) (congrArg₂ (· + ·) e1 e2) e3).trans (by simp)
  | ⟨1, _⟩ =>
    have e2 : (gather_S16x36_S8192x8192x1_S16x8192x8192_0_1_n_n_1_2_161).batchCoord (ix3 H i j) 1 = 0 := dif_neg (by decide)
    have e3 : (gather_S16x36_S8192x8192x1_S16x8192x8192_0_1_n_n_1_2_161).offCoord (ix3 H i j) 1 = 0 := dif_neg (by decide)
    have e1 : (gather_S16x36_S8192x8192x1_S16x8192x8192_0_1_n_n_1_2_161).start (ix3 H i j) idx 1 = min (idx (ix3 i j 0)).toInt.toNat 35 := by
      refine (dif_pos (by decide)).trans ?_
      refine congrArg (fun y : S8192x8192x1.Idx => min (idx y).toInt.toNat 35) ?_
      funext b
      match b with
      | ⟨0, _⟩ => rfl
      | ⟨1, _⟩ => rfl
      | ⟨2, _⟩ => rfl
    exact (congrArg₂ (· + ·) (congrArg₂ (· + ·) e1 e2) e3).trans (by simp)

/-- Key `j` weighs for query `i` in head `H`, by the table `T` of flags. -/
def liveT (T : Vec Ideal S16x36 .i32) (H : Fin 16) (i j : Fin 8192) : Prop :=
  j.val ≤ i.val ∧ (j.val / 1024 = i.val / 1024 ∨ T (ix2 H (pairR (i.val / 1024) (j.val / 1024))) = (0#32 : BitVec 32))

open Classical in
instance (T : Vec Ideal S16x36 .i32) (H : Fin 16) (i j : Fin 8192) : Decidable (liveT T H i j) := Classical.dec _

/-- The score of query `i` and key `j`. -/
def sR (H : Fin 16) (i j : Fin 8192) : EReal :=
  Ideal.div (∑ x : Fin 128, rQK V0 (ix2 i ⟨H.val * 128 + x.val, by omega⟩) * rQK V0 (ix2 j ⟨2048 + (H.val * 128 + x.val), by omega⟩))
    (Ideal.sqrt (Ideal.ofBits FTy.f32 0x43000000#32)) + rFt V0 (ix2 H i) - rFt V0 (ix2 H j)

/-- The mask's word. -/
theorem mask_word (a b : Fin 8) (p : Prop) [Decidable p] (g : BitVec 32) (x y : EReal) :
    Scalar.select (IntOp.andi (BitVec.ofBool (decide p)) (~~~ IntOp.andi (IntOp.cmpi .slt (BitVec.ofNat 32 b.val) (BitVec.ofNat 32 a.val)) (IntOp.cmpi .ne g 0#32))) x y
      = if p ∧ ¬ (b.val < a.val ∧ g ≠ 0#32) then x else y := by
  rw [slt_block]
  by_cases hp : p <;> by_cases hb : b.val < a.val <;> by_cases hg : g = 0#32
  all_goals first
    | (subst hg; simp [hp, hb, Scalar.select, IntOp.andi, IntOp.cmpi])
    | (have hg' : (g != 0#32) = true := by simpa using hg
       simp [hp, hb, hg, hg', Scalar.select, IntOp.andi, IntOp.cmpi])

/-- The mask's word says whether the key weighs. -/
theorem live_word (T : Vec Ideal S16x36 .i32) (H : Fin 16) (i j : Fin 8192) (x y : EReal) :
    Scalar.select (IntOp.andi (BitVec.ofBool (decide (j.val ≤ i.val)))
        (~~~ IntOp.andi (IntOp.cmpi .slt (BitVec.ofNat 32 (j.val / 1024)) (BitVec.ofNat 32 (i.val / 1024)))
          (IntOp.cmpi .ne (T (ix2 H ⟨min (wrapW (pairW (BitVec.ofNat 32 (i.val / 1024)) (BitVec.ofNat 32 (j.val / 1024)))).toInt.toNat 35, by omega⟩)) 0#32))) x y
      = if liveT T H i j then x else y := by
  have hm := mask_word ⟨i.val / 1024, by omega⟩ ⟨j.val / 1024, by omega⟩ (j.val ≤ i.val)
    (T (ix2 H ⟨min (wrapW (pairW (BitVec.ofNat 32 (i.val / 1024)) (BitVec.ofNat 32 (j.val / 1024)))).toInt.toNat 35, by omega⟩)) x y
  rw [hm]
  have hw := wrapW_pair ⟨i.val / 1024, by omega⟩ ⟨j.val / 1024, by omega⟩
  refine if_congr (and_congr_right fun hji => ?_) rfl rfl
  by_cases hb : j.val / 1024 < i.val / 1024
  · have hx : T (ix2 H ⟨min (wrapW (pairW (BitVec.ofNat 32 (i.val / 1024)) (BitVec.ofNat 32 (j.val / 1024)))).toInt.toNat 35, by omega⟩)
        = T (ix2 H (pairR (i.val / 1024) (j.val / 1024))) :=
      congrArg (fun n => T (ix2 H n)) (Fin.ext (hw hb))
    rw [hx]
    constructor
    · intro h
      right
      by_contra hne
      exact h ⟨hb, hne⟩
    · rintro (h | h) ⟨_, h2⟩
      · omega
      · exact h2 h
  · exact ⟨fun _ => Or.inl (by omega), fun _ h => hb h.1⟩

theorem wrap_apply (y : Vec Ideal S8192x8192 .i32) (i j : Fin 8192) :
    (broadcastInDim S8192x8192x1 ![0, 1] Gen.bcast_S8192x8192_S8192x8192x1_0_1
      (select (cmpi CmpIPredicate.slt y (broadcastInDim S8192x8192 ![] Gen.bcast_S_S8192x8192 (constantI S_ 32 0#32)))
        (addi y (broadcastInDim S8192x8192 ![] Gen.bcast_S_S8192x8192 (constantI S_ 32 36#32))) y) : Vec Ideal S8192x8192x1 .i32) (ix3 i j 0)
      = wrapW (y (ix2 i j)) := by
  pointwise [wrapW]

/-- The flags' table at the array of pairs. -/
theorem gather_wrap (x : Vec Ideal S16x36 .i32) (y : Vec Ideal S8192x8192 .i32) (H : Fin 16) (i j : Fin 8192) (p : BitVec 32) (hp : y (ix2 i j) = p) :
    (Host.gather gather_S16x36_S8192x8192x1_S16x8192x8192_0_1_n_n_1_2_161 x
      (broadcastInDim S8192x8192x1 ![0, 1] Gen.bcast_S8192x8192_S8192x8192x1_0_1
      (select (cmpi CmpIPredicate.slt y (broadcastInDim S8192x8192 ![] Gen.bcast_S_S8192x8192 (constantI S_ 32 0#32)))
        (addi y (broadcastInDim S8192x8192 ![] Gen.bcast_S_S8192x8192 (constantI S_ 32 36#32))) y)) : Vec Ideal S16x8192x8192 .i32) (ix3 H i j)
      = x (ix2 H ⟨min (wrapW p).toInt.toNat 35, by omega⟩) :=
  (gather_apply x _ H i j).trans (congrArg (fun n : Fin 36 => x (ix2 H n)) (Fin.ext (congrArg (fun w : BitVec 32 => min w.toInt.toNat 35) ((wrap_apply y i j).trans (congrArg wrapW hp)))))

/-- A masked score. -/
theorem rS_apply (H : Fin 16) (i j : Fin 8192) : rS V0 (ix3 H i j) = if liveT (rSkip V0) H i j then sR V0 H i j else Ideal.ofBits FTy.f32 0xFF800000#32 := by
  have e : rS V0 = select (andi (broadcastInDim S16x8192x8192 ![0, 1, 2] Gen.bcast_S1x8192x8192_S16x8192x8192_0_1_2 (broadcastInDim S1x8192x8192 ![1, 2] Gen.bcast_S8192x8192_S1x8192x8192_1_2 (cmpi .sle (broadcastInDim S8192x8192 ![0, 1] Gen.bcast_S1x8192_S8192x8192_0_1 (broadcastInDim S1x8192 ![1] Gen.bcast_S8192_S1x8192_1 (iotaInDim S8192 32 0))) (broadcastInDim S8192x8192 ![0, 1] Gen.bcast_S8192x1_S8192x8192_0_1 (broadcastInDim S8192x1 ![0] Gen.bcast_S8192_S8192x1_0 (iotaInDim S8192 32 0)))))) (noti (andi (broadcastInDim S16x8192x8192 ![0, 1, 2] Gen.bcast_S1x8192x8192_S16x8192x8192_0_1_2 (broadcastInDim S1x8192x8192 ![1, 2] Gen.bcast_S8192x8192_S1x8192x8192_1_2 (cmpi .slt (broadcastInDim S8192x8192 ![0, 1] Gen.bcast_S1x8192_S8192x8192_0_1 (rKb V0)) (broadcastInDim S8192x8192 ![0, 1] Gen.bcast_S8192x1_S8192x8192_0_1 (rQb V0))))) (cmpi .ne (Host.gather gather_S16x36_S8192x8192x1_S16x8192x8192_0_1_n_n_1_2_161 (rSkip V0) (broadcastInDim S8192x8192x1 ![0, 1] Gen.bcast_S8192x8192_S8192x8192x1_0_1 (select (cmpi .slt (rPair V0) (broadcastInDim S8192x8192 ![] Gen.bcast_S_S8192x8192 (constantI S_ 32 0#32))) (addi (rPair V0) (broadcastInDim S8192x8192 ![] Gen.bcast_S_S8192x8192 (constantI S_ 32 36#32))) (rPair V0)))) (broadcastInDim S16x8192x8192 ![] Gen.bcast_S_S16x8192x8192 (constantI S_ 32 0#32)))))) (subf (addf (Host.divf (Host.dotGeneral dot_S8192x16x128_S8192x16x128_S16x8192x8192_2_2_0_0_1_1 none (shapeCast S8192x16x128 (extf .f32 (extractStridedSlice S8192x2048 ![0, 0] (rQK V0) Gen.slices_S8192x4096_S8192x2048_0_0) Gen.bitsLt_bf16_f32) Gen.shapeCasts_S8192x2048_S8192x16x128) (shapeCast S8192x16x128 (extf .f32 (extractStridedSlice S8192x2048 ![0, 2048] (rQK V0) Gen.slices_S8192x4096_S8192x2048_0_2048) Gen.bitsLt_bf16_f32) Gen.shapeCasts_S8192x2048_S8192x16x128)) (broadcastInDim S16x8192x8192 ![] Gen.bcast_S_S16x8192x8192 (Host.sqrt (constant (F := Ideal) S_ .f32 0x43000000#32)))) (broadcastInDim S16x8192x8192 ![0, 1, 2] Gen.bcast_S16x8192x1_S16x8192x8192_0_1_2 (broadcastInDim S16x8192x1 ![0, 1] Gen.bcast_S16x8192_S16x8192x1_0_1 (rFt V0)))) (broadcastInDim S16x8192x8192 ![0, 1, 2] Gen.bcast_S16x1x8192_S16x8192x8192_0_1_2 (broadcastInDim S16x1x8192 ![0, 2] Gen.bcast_S16x8192_S16x1x8192_0_2 (rFt V0)))) (broadcastInDim S16x8192x8192 ![] Gen.bcast_S_S16x8192x8192 (constant (F := Ideal) S_ .f32 0xFF800000#32)) := rfl
  rw [e]
  pointwise [rQb_apply, rKb_apply, sle_word]
  generalize hg : Host.gather _ _ _ _ = g
  have hg' := hg.symm.trans (gather_wrap (rSkip V0) (rPair V0) H i j _ (rPair_apply V0 i j))
  subst hg'
  exact live_word _ H i j _ _

theorem rE_eq : rE V0 = Host.exp (subf (rS V0) (broadcastInDim S16x8192x8192 ![0, 1, 2] Gen.bcast_S16x8192x1_S16x8192x8192_0_1_2 (broadcastInDim S16x8192x1 ![0, 1] Gen.bcast_S16x8192_S16x8192x1_0_1 (maximumf (broadcastInDim S16x8192 ![] Gen.bcast_S_S16x8192 (constant (F := Ideal) S_ .f32 0xFF800000#32)) (Host.reduce FloatOps.maximumf (rS V0) (constant (F := Ideal) S_ .f32 0xFF800000#32) Gen.reducesTo_S16x8192x8192_S16x8192_d2 Gen.h_S_))))) := rfl

theorem reduceMax_apply (x : Vec Ideal S16x8192x8192 .f32) (w : BitVec 32) (H : Fin 16) (i : Fin 8192) :
    (Host.reduce (FloatOps.maximumf (F := Ideal) (φ := .f32)) x (constant (F := Ideal) S_ .f32 w) Gen.reducesTo_S16x8192x8192_S16x8192_d2 Gen.h_S_ : Vec Ideal S16x8192 .f32) (ix2 H i) =
      Finset.fold max (Ideal.ofBits FTy.f32 w) (fun j => x (ix3 H i j)) Finset.univ := by
  pointwise []

theorem expW_apply (x : Vec Ideal S16x8192x8192 .f32) (y : Vec Ideal S16x8192 .f32) (H : Fin 16) (i j : Fin 8192) :
   Host.exp (subf x (broadcastInDim S16x8192x8192 ![0, 1, 2] Gen.bcast_S16x8192x1_S16x8192x8192_0_1_2
          (broadcastInDim S16x8192x1 ![0, 1] Gen.bcast_S16x8192_S16x8192x1_0_1
            (maximumf (broadcastInDim S16x8192 ![] Gen.bcast_S_S16x8192 (constant (F := Ideal) S_ FTy.f32 0xFF800000#32)) y)))) (ix3 H i j)
     = Ideal.exp (x (ix3 H i j) - max (Ideal.ofBits FTy.f32 0xFF800000#32) (y (ix2 H i))) := by
  pointwise []

/-- A weight before it is divided. -/
theorem rE_apply (H : Fin 16) (i j : Fin 8192) : rE V0 (ix3 H i j) = Ideal.exp (rS V0 (ix3 H i j) -
    max (Ideal.ofBits FTy.f32 0xFF800000#32) (Finset.fold max (Ideal.ofBits FTy.f32 0xFF800000#32) (fun k => rS V0 (ix3 H i k)) Finset.univ)) := by
  rw [rE_eq, expW_apply, reduceMax_apply]

/-- The result of query `i` in head `H`, lane `d`: the values weighed by the divided weights. -/
theorem result_apply (v : Vec Ideal S8192x2048 .bf16) (e : Vec Ideal S16x8192x8192 .f32) (H : Fin 16) (i : Fin 8192) (d : Fin 128) (j : Fin 2048) (hj : j.val = 128 * H.val + d.val) :
    (truncf .bf16 (shapeCast _ (transpose S8192x16x128 [2, 0, 1] (Host.dotGeneral dot_S8192x16x128_S16x8192x8192_S16x128x8192_0_2_2_1_1_0 none (shapeCast _ (extf .f32 v Gen.bitsLt_bf16_f32) Gen.shapeCasts_S8192x2048_S8192x16x128) (Host.divf e (broadcastInDim S16x8192x8192 ![0, 1, 2] Gen.bcast_S16x8192x1_S16x8192x8192_0_1_2 (broadcastInDim S16x8192x1 ![0, 1] Gen.bcast_S16x8192_S16x8192x1_0_1 (Host.reduceAdd e (constant (F := Ideal) S_ .f32 0x00000000#32) Gen.reducesTo_S16x8192x8192_S16x8192_d2 Gen.h_S_))))) Gen.transposes_S16x128x8192_S8192x16x128_2_0_1) Gen.shapeCasts_S8192x16x128_S8192x2048) Gen.bitsLt_bf16_f32 : Vec Ideal S8192x2048 .bf16) (ix2 i j)
      = ∑ x : Fin 8192, v (ix2 x j) * Ideal.div (e (ix3 H i x)) (∑ x : Fin 8192, e (ix3 H i x)) := by
  obtain ⟨jv, hjl⟩ := j
  obtain rfl : jv = H.val * 128 + d.val := by simpa [Nat.mul_comm] using hj
  pointwise []

end Cert.ReferenceIdeal.Value
-- ==== Proof.VEq.lean ====
module

public import Idealize.ShloMosaic.PureOps.Ideal

@[expose] public section

noncomputable section

namespace Cert.Attn

open Idealize.ShloMosaic

variable {ι : Type} [Fintype ι]

/-- A finite factor that is not negative goes into a sum. -/
theorem sum_mul_coe (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- A sum of finite numbers is finite. -/
theorem sum_coe (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

theorem div_coe (x : EReal) (r : ℝ) (hr : r ≠ 0) : Ideal.div x (r : EReal) = x * ((r⁻¹ : ℝ) : EReal) := by
  unfold Ideal.div
  rw [if_neg (by exact_mod_cast hr), EReal.coe_inv]

/-- Weights that differ by a common factor give the same mean, divided after the sum or before it. -/
theorem mean_eq (a : ι → ℝ) (ha : ∀ j, 0 ≤ a j) (A : ℝ) (hA : ∑ j, a j = A) (hpos : 0 < A) (c c' : ℝ) (hc : 0 < c) (hc' : 0 < c') (v : ι → EReal) :
    Ideal.div (∑ j, ((a j * c : ℝ) : EReal) * v j) (∑ j, ((a j * c : ℝ) : EReal))
      = ∑ j, v j * Ideal.div ((a j * c' : ℝ) : EReal) (∑ k, ((a k * c' : ℝ) : EReal)) := by
  have s1 : (∑ j, ((a j * c : ℝ) : EReal)) = ((A * c : ℝ) : EReal) := by rw [sum_coe, ← Finset.sum_mul, hA]
  have s2 : (∑ j, ((a j * c' : ℝ) : EReal)) = ((A * c' : ℝ) : EReal) := by rw [sum_coe, ← Finset.sum_mul, hA]
  have p1 : 0 < A * c := mul_pos hpos hc
  have p2 : 0 < A * c' := mul_pos hpos hc'
  rw [s1, s2, div_coe _ _ p1.ne', sum_mul_coe _ _ _ (inv_nonneg.2 p1.le)]
  refine Finset.sum_congr rfl fun j _ => ?_
  rw [div_coe _ _ p2.ne', mul_comm _ (v j), mul_assoc, ← EReal.coe_mul, ← EReal.coe_mul]
  congr 2
  field_simp

theorem exp_coe (r : ℝ) : Ideal.exp (r : EReal) = (Real.exp r : EReal) := rfl

theorem exp2_coe (r : ℝ) : Ideal.exp2 (r : EReal) = (Real.rpow 2 r : EReal) := rfl

/-- A power of two of a multiple of the logarithm is an exponential. -/
theorem exp2_log (x : ℝ) : Ideal.exp2 ((x * (Real.log 2)⁻¹ : ℝ) : EReal) = (Real.exp x : EReal) := by
  rw [exp2_coe]
  congr 1
  show (2 : ℝ) ^ (x * (Real.log 2)⁻¹) = _
  have h2 : Real.log 2 ≠ 0 := (Real.log_pos (by norm_num)).ne'
  rw [Real.rpow_def_of_pos (by norm_num)]
  congr 1
  field_simp

variable (live : ι → Prop) [DecidablePred live] (s : ι → ℝ)

/-- The greatest masked score is finite where some key weighs. -/
theorem max_real (i₀ : ι) (h₀ : live i₀) : ∃ M : ℝ,
    max (⊥ : EReal) (Finset.fold max (⊥ : EReal) (fun k => if live k then (s k : EReal) else ⊥) Finset.univ) = (M : EReal) := by
  have ht : Finset.fold max (⊥ : EReal) (fun k => if live k then (s k : EReal) else ⊥) Finset.univ < ⊤ := by
    rw [Finset.fold_max_lt]
    refine ⟨bot_lt_top, fun k _ => ?_⟩
    split
    · exact EReal.coe_lt_top _
    · exact bot_lt_top
  have hb : ⊥ < Finset.fold max (⊥ : EReal) (fun k => if live k then (s k : EReal) else ⊥) Finset.univ := by
    rw [Finset.lt_fold_max]
    refine Or.inr ⟨i₀, Finset.mem_univ _, ?_⟩
    rw [if_pos h₀]
    exact EReal.bot_lt_coe _
  rw [max_eq_right bot_le]
  exact ⟨_, (EReal.coe_toReal ht.ne hb.ne').symm⟩

/-- The kernel's sums, with a fixed shift, and the softmax, with the greatest score, weigh the values alike. -/
theorem softmax_eq (t : ℝ) (v : ι → EReal) (i₀ : ι) (h₀ : live i₀) :
    Ideal.div (∑ j, if live j then Ideal.exp2 (((s j - t) * (Real.log 2)⁻¹ : ℝ) : EReal) * v j else 0)
        (∑ j, if live j then Ideal.exp2 (((s j - t) * (Real.log 2)⁻¹ : ℝ) : EReal) * 1 else 0)
      = ∑ j, v j * Ideal.div (Ideal.exp ((if live j then (s j : EReal) else ⊥)
            - max (⊥ : EReal) (Finset.fold max (⊥ : EReal) (fun k => if live k then (s k : EReal) else ⊥) Finset.univ)))
          (∑ l, Ideal.exp ((if live l then (s l : EReal) else ⊥)
            - max (⊥ : EReal) (Finset.fold max (⊥ : EReal) (fun k => if live k then (s k : EReal) else ⊥) Finset.univ))) := by
  obtain ⟨M, hM⟩ := max_real live s i₀ h₀
  rw [hM]
  have hk : ∀ (j : ι) (w : EReal), (if live j then Ideal.exp2 (((s j - t) * (Real.log 2)⁻¹ : ℝ) : EReal) * w else 0)
      = (((if live j then Real.exp (s j) else 0) * Real.exp (-t) : ℝ) : EReal) * w := by
    intro j w
    split
    · rw [exp2_log, ← Real.exp_add, sub_eq_add_neg]
    · rw [zero_mul, EReal.coe_zero, zero_mul]
  have hr : ∀ j : ι, Ideal.exp ((if live j then (s j : EReal) else ⊥) - (M : EReal))
      = (((if live j then Real.exp (s j) else 0) * Real.exp (-M) : ℝ) : EReal) := by
    intro j
    split
    · rw [← EReal.coe_sub, exp_coe, ← Real.exp_add, sub_eq_add_neg]
    · rw [zero_mul, EReal.coe_zero, EReal.bot_sub]
      rfl
  have hk1 : ∀ j : ι, (if live j then Ideal.exp2 (((s j - t) * (Real.log 2)⁻¹ : ℝ) : EReal) * 1 else 0)
      = (((if live j then Real.exp (s j) else 0) * Real.exp (-t) : ℝ) : EReal) := fun j => (hk j 1).trans (mul_one _)
  rw [Finset.sum_congr rfl (fun j _ => hk j (v j)), Finset.sum_congr rfl (fun j _ => hk1 j), Finset.sum_congr rfl (fun l _ => hr l)]
  rw [Finset.sum_congr rfl (fun j _ => congrArg (fun e => v j * Ideal.div e _) (hr j))]
  refine mean_eq _ (fun j => ?_) _ rfl ?_ _ _ (Real.exp_pos _) (Real.exp_pos _) v
  · split
    · exact (Real.exp_pos _).le
    · exact le_rfl
  · refine Finset.sum_pos' (fun j _ => ?_) ⟨i₀, Finset.mem_univ _, ?_⟩
    · split
      · exact (Real.exp_pos _).le
      · exact le_rfl
    · rw [if_pos h₀]
      exact Real.exp_pos _

end Cert.Attn

end
-- ==== Proof.VJoin.lean ====
module

public import proofs.«01_k».proof.Proof.ILaunch
public import proofs.«01_k».proof.Proof.VArray
public import proofs.«01_k».proof.Proof.VHost
public import proofs.«01_k».proof.Proof.VRef
public import proofs.«01_k».proof.Proof.VEq

@[expose] public section

set_option maxRecDepth 16384

noncomputable section

namespace Cert.Join

open Idealize.ShloMosaic Idealize.ShloMosaic.StableHlo Idealize.SL.Sem Cert.KernelIdeal.Gen Cert.ReferenceIdeal.Value

variable (m : (ℓ : Loc Cert.KernelIdeal.nD Cert.KernelIdeal.τ Cert.KernelIdeal.sig) → Buf (Elt Ideal) ℓ)
variable (V0 : Valuation Cert.ReferenceIdeal.τ Cert.ReferenceIdeal.sig (Elt Ideal))

/-- The score of query `i` and key `j` in head `H`, a real number. -/
def sJ (Q : Fin 8192 → Fin 4096 → ℝ) (G : Fin 8192 → Fin 16 → ℝ) (H : Fin 16) (i j : Fin 8192) : ℝ :=
  (∑ d : Fin 128, Q i ⟨128 * H.val + d.val, by omega⟩ * Q j ⟨2048 + 128 * H.val + d.val, by omega⟩) * (Real.sqrt 128)⁻¹ + G i H - G j H

variable (Q : Fin 8192 → Fin 4096 → ℝ) (G : Fin 8192 → Fin 16 → ℝ)

/-- The kernel's exponent is the score less the shift, to the base two. -/
theorem sK_eq (c : Dev Cert.KernelIdeal.nD) (t : ℝ) (hQ : ∀ i d, qkA m c (ix2 i d) = (Q i d : EReal))
    (hG : ∀ (i : Fin 8192) (H : Fin 16), argF m c (ix2 i ⟨H.val, by omega⟩) = (G i H : EReal))
    (ht : shiftE (argGq m c) (argGk m c) = (t : EReal)) (H : Fin 16) (i j : Fin 8192) :
    sK m c H i j = (((sJ Q G H i j - t) * (Real.log 2)⁻¹ : ℝ) : EReal) := by
  unfold sK
  rw [fcA_apply, frA_apply, hG, hG, ht]
  have hs : (∑ d : Fin 128, qkA m c (ix2 i ⟨128 * H.val + d.val, by omega⟩) * qkA m c (ix2 j ⟨2048 + 128 * H.val + d.val, by omega⟩))
      = ((∑ d : Fin 128, Q i ⟨128 * H.val + d.val, by omega⟩ * Q j ⟨2048 + 128 * H.val + d.val, by omega⟩ : ℝ) : EReal) := by
    rw [← Cert.Attn.sum_coe]
    refine Finset.sum_congr rfl fun d _ => ?_
    rw [hQ, hQ, EReal.coe_mul]
  rw [hs]
  unfold cScale cLog sJ
  rw [← EReal.coe_mul, ← EReal.coe_sub, ← EReal.coe_mul, ← EReal.coe_mul, ← EReal.coe_add, ← EReal.coe_sub]
  congr 1
  ring

theorem sqrt_bits : Ideal.sqrt (Ideal.ofBits FTy.f32 0x43000000#32) = (Real.sqrt 128 : EReal) := by
  have e : Ideal.ofBits FTy.f32 0x43000000#32 = ((128 : ℝ) : EReal) := by
    simp [Ideal.ofBits, Ideal.ieee]
    rw [← EReal.coe_mul]
    norm_num
  rw [e]
  show (if (128 : ℝ) < 0 then (⊥ : EReal) else _) = _
  rw [if_neg (by norm_num)]

/-- The reference's score. -/
theorem sR_eq (hQ : ∀ i d, rQK V0 (ix2 i d) = (Q i d : EReal)) (hG : ∀ (i : Fin 8192) (H : Fin 16), rF V0 (ix2 i ⟨H.val, by omega⟩) = (G i H : EReal))
    (H : Fin 16) (i j : Fin 8192) : sR V0 H i j = (sJ Q G H i j : EReal) := by
  unfold sR
  rw [rFt_apply, rFt_apply, hG, hG, sqrt_bits, Cert.Attn.div_coe _ _ (Real.sqrt_pos.2 (by norm_num)).ne']
  have hs : (∑ x : Fin 128, rQK V0 (ix2 i ⟨H.val * 128 + x.val, by omega⟩) * rQK V0 (ix2 j ⟨2048 + (H.val * 128 + x.val), by omega⟩))
      = ((∑ d : Fin 128, Q i ⟨128 * H.val + d.val, by omega⟩ * Q j ⟨2048 + 128 * H.val + d.val, by omega⟩ : ℝ) : EReal) := by
    rw [← Cert.Attn.sum_coe]
    refine Finset.sum_congr rfl fun d _ => ?_
    have e1 : (⟨H.val * 128 + d.val, by omega⟩ : Fin 4096) = ⟨128 * H.val + d.val, by omega⟩ := Fin.ext (by simp only; omega)
    have e2 : (⟨2048 + (H.val * 128 + d.val), by omega⟩ : Fin 4096) = ⟨2048 + 128 * H.val + d.val, by omega⟩ := Fin.ext (by simp only; omega)
    rw [e1, e2, hQ, hQ, EReal.coe_mul]
  rw [hs, ← EReal.coe_mul, ← EReal.coe_add, ← EReal.coe_sub]
  rfl

theorem bits_bot : Ideal.ofBits FTy.f32 0xFF800000#32 = ⊥ := by simp [Ideal.ofBits, Ideal.ieee]

/-- The output of the kernel and the reference's result agree at each query, head and lane. -/
theorem out_eq (c : Dev Cert.KernelIdeal.nD) (t : ℝ) (hQ : ∀ i d, qkA m c (ix2 i d) = (Q i d : EReal))
    (hG : ∀ (i : Fin 8192) (H : Fin 16), argF m c (ix2 i ⟨H.val, by omega⟩) = (G i H : EReal))
    (ht : shiftE (argGq m c) (argGk m c) = (t : EReal))
    (eQ : rQK V0 = qkA m c) (eF : rF V0 = argF m c) (eS : rSkip V0 = flags m) (H : Fin 16) (i : Fin 8192) (d : Fin 128) :
    outK m c i H d = ∑ x : Fin 8192, vA m c (ix2 x ⟨128 * H.val + d.val, by omega⟩) * Ideal.div (rE V0 (ix3 H i x)) (∑ x : Fin 8192, rE V0 (ix3 H i x)) := by
  have hS : ∀ k, rS V0 (ix3 H i k) = if live m H i k then (sJ Q G H i k : EReal) else ⊥ := by
    intro k
    rw [rS_apply, sR_eq V0 Q G (by rw [eQ]; exact hQ) (by rw [eF]; exact hG), bits_bot]
    refine if_congr ?_ rfl rfl
    unfold liveT live
    rw [eS]
    exact Iff.rfl
  have hE : ∀ k, rE V0 (ix3 H i k) = Ideal.exp ((if live m H i k then (sJ Q G H i k : EReal) else ⊥)
      - max (⊥ : EReal) (Finset.fold max (⊥ : EReal) (fun k => if live m H i k then (sJ Q G H i k : EReal) else ⊥) Finset.univ)) := by
    intro k
    rw [rE_apply, bits_bot, hS k, (funext hS : (fun k => rS V0 (ix3 H i k)) = _)]
  have h0 : live m H i i := ⟨le_rfl, Or.inl rfl⟩
  have key := Cert.Attn.softmax_eq (fun k => live m H i k) (fun k => sJ Q G H i k) t
    (fun x => vA m c (ix2 x ⟨128 * H.val + d.val, by omega⟩)) i h0
  have r1 : (∑ j : Fin 8192, gK m c H i ⟨d.val, by omega⟩ j)
      = ∑ j, if live m H i j then Ideal.exp2 (((sJ Q G H i j - t) * (Real.log 2)⁻¹ : ℝ) : EReal) * vA m c (ix2 j ⟨128 * H.val + d.val, by omega⟩) else 0 := by
    refine Finset.sum_congr rfl fun j _ => ?_
    unfold gK vE
    rw [sK_eq m Q G c t hQ hG ht, dif_pos d.isLt]
  have r2 : (∑ j : Fin 8192, gK m c H i ⟨128 + d.val, by omega⟩ j)
      = ∑ j, if live m H i j then Ideal.exp2 (((sJ Q G H i j - t) * (Real.log 2)⁻¹ : ℝ) : EReal) * 1 else 0 := by
    refine Finset.sum_congr rfl fun j _ => ?_
    unfold gK vE
    rw [sK_eq m Q G c t hQ hG ht, dif_neg (by simp only; omega)]
  unfold outK
  rw [r1, r2]
  refine key.trans (Finset.sum_congr rfl fun x _ => ?_)
  rw [hE x, Finset.sum_congr rfl (fun l _ => hE l)]

/-- The run of the kernel: its result and its arguments. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v15) = outA m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun r h c => ⟨(h.1.out_eq c (5 : Fin 6)).trans (final5 m (ok_m m) c), h.2 c⟩)
    (θ_run_and (run_main m g (ok_m m)) (unchanged m g (ok_m m)))

end Cert.Join

end
-- ==== Proof.VPre.lean ====
module

public import proofs.«01_k».proof.Proof.Gen.Pre_finite
public import Idealize.ShloMosaic.Lib.Pointwise

@[expose] public section

set_option maxRecDepth 16384

noncomputable section

namespace Cert.Pre_finite

open Idealize.ShloMosaic

theorem andi_one (x y : BitVec 1) (h : IntOp.andi x y = 1#1) : x = 1#1 ∧ y = 1#1 := by
  revert x y
  decide

/-- A conjunction over a set that holds, holds of each member. -/
theorem fold_andi {ι : Type} [DecidableEq ι] (s : Finset ι) (f : ι → BitVec 1) (h : Finset.fold IntOp.andi 1#1 f s = 1#1) : ∀ k ∈ s, f k = 1#1 := by
  induction s using Finset.induction_on with
  | empty => simp
  | insert a s ha ih =>
    rw [Finset.fold_insert ha] at h
    obtain ⟨h1, h2⟩ := andi_one _ _ h
    intro k hk
    rcases Finset.mem_insert.1 hk with rfl | hk
    · exact h1
    · exact ih h2 k hk

theorem fold_andi_univ {ι : Type} [DecidableEq ι] [Fintype ι] (f : ι → BitVec 1) (h : Finset.fold IntOp.andi 1#1 f Finset.univ = 1#1) (k : ι) : f k = 1#1 :=
  fold_andi Finset.univ f h k (Finset.mem_univ k)

/-- A number whose absolute value is below infinity is a real number. -/
theorem real_of_abs (x : EReal) (h : BitVec.ofBool (decide (FloatOps.absf (F := Ideal) (φ := .f32) x < Ideal.ofBits FTy.f32 0x7F800000#32)) = 1#1) : ∃ r : ℝ, x = (r : EReal) := by
  have ht : Ideal.ofBits FTy.f32 0x7F800000#32 = ⊤ := by simp [Ideal.ofBits, Ideal.ieee]
  have h' : max x (-x) < Ideal.ofBits FTy.f32 0x7F800000#32 := by
    by_contra hn
    have : decide (FloatOps.absf (F := Ideal) (φ := .f32) x < Ideal.ofBits FTy.f32 0x7F800000#32) = false := decide_eq_false hn
    rw [this] at h
    exact absurd h (by decide)
  rw [ht, max_lt_iff] at h'
  have hb : x ≠ ⊥ := by
    rintro rfl
    exact absurd h'.2 (by simp)
  exact ⟨_, (EReal.coe_toReal h'.1.ne hb).symm⟩

/-- What the precondition says of the arguments: the queries and keys, the heads' gates and both gains are real numbers. -/
theorem pre_parts (qk : Vec Ideal S8192x4096 .bf16) (v : Vec Ideal S8192x2048 .bf16) (F : Vec Ideal S8192x128 .f32) (gq gk : Vec Ideal S128 .f32) (sk : Vec Ideal S16x36 .i32)
    (h : fn (F := Ideal) qk v F gq gk sk = fun _ => 1#1) :
    (∀ (i : Fin 8192) (d : Fin 4096), ∃ r : ℝ, qk (ix2 i d) = (r : EReal))
    ∧ (∀ (i : Fin 8192) (H : Fin 16), ∃ r : ℝ, F (ix2 i ⟨H.val, by omega⟩) = (r : EReal))
    ∧ (∀ d : Fin 128, ∃ r : ℝ, gq (ix1 d) = (r : EReal)) ∧ (∀ d : Fin 128, ∃ r : ℝ, gk (ix1 d) = (r : EReal)) := by
  have h0 := congrFun h ix0
  revert h0
  unfold fn fn_part1
  pointwise []
  intro h0
  obtain ⟨h1, h4⟩ := andi_one _ _ h0
  obtain ⟨h1, h3⟩ := andi_one _ _ h1
  obtain ⟨h1, h2⟩ := andi_one _ _ h1
  have k1 := fold_andi_univ _ h1
  have k2 := fold_andi_univ _ h2
  have k3 := fold_andi_univ _ h3
  have k4 := fold_andi_univ _ h4
  exact ⟨fun i d => real_of_abs _ (k1 (i, d)), fun i H => real_of_abs _ (k2 (i, H)), fun d => real_of_abs _ (k3 d), fun d => real_of_abs _ (k4 d)⟩

end Cert.Pre_finite

end
-- ==== Proof.MBase.lean ====
module

public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

/-! What the calls that multiply by a layer's weights have in common. -/

@[expose] public section

noncomputable section

namespace Cert.Dense

open Idealize.ShloMosaic Idealize.SL.Sem

/-- The host's quotient of one and one plus the exponential of the opposite is the logistic function. -/
theorem logistic_eq (x : EReal) : Ideal.div 1 (1 + Ideal.exp (-x)) = Ideal.logistic x := rfl

variable {nD : Nat} {τ : Topo} {sig : RefSig} {Val : EltTy → Type} {Λ : Labels}
variable {defs : Defs nD τ sig Val Λ} {p : (c : Thread nD τ) → Prog (TpuEff nD τ sig Val Λ c.2) PUnit} {s : MemSt nD τ sig Val}
variable {A : Dev nD → PUnit × MemSt nD τ sig Val → Prop}

/-- Of a run without semaphores one may forget the result and say that the counters end at zero. -/
theorem kept_of_run {R : Dev nD → PUnit × MemSt nD τ sig Val → Prop} (hs : sig.nSem + sig.nDmaSem = 0)
    (h : θ_run defs p s fun r => ∀ c, R c r ∧ A c r) : θ_run defs p s fun r => (∀ c, A c r) ∧ r.2.sem = fun _ => 0 :=
  (θ_run defs p s).mono (fun r hr => ⟨fun c => (hr c).2, sem_eq_zero_of_no_sems hs r.2⟩) h

/-- The result of a run, restated. -/
theorem result_of_run {ℓ : Dev nD → Loc nD τ sig} {v w : (c : Dev nD) → Buf Val (ℓ c)}
    (h : θ_run defs p s fun r => ∀ c, r.2.mem (ℓ c) = v c ∧ A c r) (e : ∀ c, v c = w c) :
    θ_run defs p s fun r => ∀ c, r.2.mem (ℓ c) = w c ∧ A c r :=
  (θ_run defs p s).mono (fun _ hr c => ⟨(hr c).1.trans (e c), (hr c).2⟩) h

end Cert.Dense
-- ==== Proof.MFfn.lean ====
module

public import proofs.«01_k».proof.Defs
public import proofs.«01_k».proof.Proof.Gen.KernelFfnIdeal.Value
public import proofs.«01_k».proof.Proof.Gen.ReferenceFfnIdeal.Read
public import proofs.«01_k».proof.Proof.MBase

@[expose] public section

set_option maxRecDepth 16384

noncomputable section

namespace Cert.KernelFfnIdeal.Dense

open Cert.KernelFfnIdeal Cert.KernelFfnIdeal.Gen Cert.ReferenceFfnIdeal.Read Cert.Dense
open Idealize.ShloMosaic Idealize.ShloMosaic.TcCoe Idealize.SL.Sem

variable (m : (ℓ : Loc nD τ sig) → Buf (Elt Ideal) ℓ)

/-- Both weights are read in the same blocks of columns. -/
theorem index : ∀ t : Fin cfg0.N, win0_0.index t = ![(grid0.coords t 0).val, 0] ∧ win0_1.index t = ![1, 0, (grid0.coords t 1).val]
    ∧ win0_2.index t = win0_1.index t ∧ win0_3.index t = ![(grid0.coords t 0).val, (grid0.coords t 1).val] :=
  (by decide +kernel : ∀ t : Fin grid0.N, _)

/-- The gated product, as the reference has it. -/
abbrev value (c : Dev nD) : Buf (Elt Ideal) ((c : Thread nD τ).loc main_v0) :=
  val_main_v11 (F := Ideal) (m ((c : Thread nD τ).loc main_arg0)) (m ((c : Thread nD τ).loc main_arg1))
    (m ((c : Thread nD τ).loc main_arg2))

/-- The result array: the first product, its logistic function and the second product, multiplied at every place. -/
theorem final (c : Dev nD) : (dats m 0 c).arrAt 3 cfg0.N = value m c := by
  refine (dats m 0 c).arrAt_eq_of_covers 3 _ (by decide +kernel) fun t hf y => ?_
  blk_simp
  rw [after0_3]
  frame_out
  pointwise [k0_pay1, val_main_v11_apply, val_main_v10_apply, val_main_v9_apply, val_main_v8_apply, val_main_v7, val_main_v6,
    val_main_v5_apply, val_main_call0_v5_apply, val_main_call0_v4_apply, val_main_call0_cst_0_apply, val_main_call0_v3_apply,
    val_main_call0_v2_apply, val_main_call0_cst_apply, val_main_call0_v1_apply, val_main_call0_v0_apply, val_main_v4_apply,
    val_main_v3_apply, val_main_v2, val_main_v1, val_main_v0_apply]
  simp only [logistic_eq]
  blk_point [iblk, V, index t]

theorem reference_frame : Cert.quiescent_ReferenceFfnIdeal :=
  fun m g _ => kept_of_run rfl (Cert.ReferenceFfnIdeal.Value.run m g)

theorem algebraic : Cert.algebraic_KernelFfnIdeal_ReferenceFfnIdeal := fun m g m' g' _ hm =>
  ⟨value m, result_of_run (Value.run_blocks m g) (final m), result_of_run (Cert.ReferenceFfnIdeal.Value.run m' g') fun c =>
    (val_main_v11_eq ..).trans (by obtain ⟨h0, h1, h2⟩ := hm c; rw [h0, h1, h2])⟩

end Cert.KernelFfnIdeal.Dense
-- ==== Proof.MDown.lean ====
module

public import proofs.«01_k».proof.Defs
public import proofs.«01_k».proof.Proof.Gen.KernelDownIdeal.Value
public import proofs.«01_k».proof.Proof.Gen.ReferenceDownIdeal.Read
public import proofs.«01_k».proof.Proof.MBase

@[expose] public section

set_option maxRecDepth 16384

noncomputable section

namespace Cert.KernelDownIdeal.Dense

open Cert.KernelDownIdeal Cert.KernelDownIdeal.Gen Cert.ReferenceDownIdeal.Read Cert.Dense
open Idealize.ShloMosaic Idealize.ShloMosaic.TcCoe Idealize.SL.Sem

variable (m : (ℓ : Loc nD τ sig) → Buf (Elt Ideal) ℓ)

/-- The residual stream comes in the same blocks as the result; the inner axis is whole. -/
theorem index : ∀ t : Fin cfg0.N, win0_0.index t = ![(grid0.coords t 0).val, 0] ∧ win0_1.index t = ![1, 0, (grid0.coords t 1).val]
    ∧ win0_2.index t = ![(grid0.coords t 0).val, (grid0.coords t 1).val] ∧ win0_3.index t = win0_2.index t :=
  (by decide +kernel : ∀ t : Fin grid0.N, _)

/-- The residual stream after half a feed-forward step, as the reference has it. -/
abbrev value (c : Dev nD) : Buf (Elt Ideal) ((c : Thread nD τ).loc main_v0) :=
  val_main_v7 (F := Ideal) (m ((c : Thread nD τ).loc main_arg0)) (m ((c : Thread nD τ).loc main_arg1))
    (m ((c : Thread nD τ).loc main_arg2))

/-- The result array: the residual stream and half the product at every place. -/
theorem final (c : Dev nD) : (dats m 0 c).arrAt 3 cfg0.N = value m c := by
  refine (dats m 0 c).arrAt_eq_of_covers 3 _ (by decide +kernel) fun t hf y => ?_
  blk_simp
  rw [after0_3]
  frame_out
  pointwise [k0_pay1, val_main_v7_apply, val_main_v6_apply, val_main_v5_apply, val_main_cst_apply, val_main_v4_apply,
    val_main_v3_apply, val_main_v2, val_main_v1, val_main_v0_apply]
  blk_point [iblk, V, index t]

theorem reference_frame : Cert.quiescent_ReferenceDownIdeal :=
  fun m g _ => kept_of_run rfl (Cert.ReferenceDownIdeal.Value.run m g)

theorem algebraic : Cert.algebraic_KernelDownIdeal_ReferenceDownIdeal := fun m g m' g' _ hm =>
  ⟨value m, result_of_run (Value.run_blocks m g) (final m), result_of_run (Cert.ReferenceDownIdeal.Value.run m' g') fun c =>
    (val_main_v7_eq ..).trans (by obtain ⟨h0, h1, h2⟩ := hm c; rw [h0, h1, h2])⟩

end Cert.KernelDownIdeal.Dense
-- ==== Proof.MGates.lean ====
module

public import proofs.«01_k».proof.Defs
public import proofs.«01_k».proof.Proof.Gen.KernelGatesIdeal.Value
public import proofs.«01_k».proof.Proof.Gen.ReferenceGatesIdeal.Read
public import proofs.«01_k».proof.Proof.MBase

@[expose] public section

set_option maxRecDepth 16384

noncomputable section

namespace Cert.KernelGatesIdeal.Dense

open Cert.KernelGatesIdeal Cert.KernelGatesIdeal.Gen Cert.ReferenceGatesIdeal.Read Cert.Dense
open Idealize.ShloMosaic Idealize.ShloMosaic.TcCoe Idealize.SL.Sem

variable (m : (ℓ : Loc nD τ sig) → Buf (Elt Ideal) ℓ)

/-- A point takes a block of rows and a block of the layer's columns. -/
theorem index : ∀ t : Fin cfg0.N, win0_0.index t = ![(grid0.coords t 0).val, 0] ∧ win0_1.index t = ![1, 0, (grid0.coords t 1).val]
    ∧ win0_2.index t = ![(grid0.coords t 0).val, (grid0.coords t 1).val] :=
  (by decide +kernel : ∀ t : Fin grid0.N, _)

/-- The gates, as the reference has them. -/
abbrev value (c : Dev nD) : Buf (Elt Ideal) ((c : Thread nD τ).loc main_v0) :=
  val_main_v11 (F := Ideal) (m ((c : Thread nD τ).loc main_arg0)) (m ((c : Thread nD τ).loc main_arg1))

/-- The result array: the logistic function of the product at every place. -/
theorem final (c : Dev nD) : (dats m 0 c).arrAt 2 cfg0.N = value m c := by
  refine (dats m 0 c).arrAt_eq_of_covers 2 _ (by decide +kernel) fun t hf y => ?_
  blk_simp
  rw [after0_2]
  frame_out
  pointwise [k0_pay1, val_main_v11_apply, val_main_v10_apply, val_main_v9_apply, val_main_cst_0_apply, val_main_v8_apply,
    val_main_v7_apply, val_main_cst_apply, val_main_v6_apply, val_main_v5_apply, val_main_v4_apply, val_main_v3_apply,
    val_main_v2, val_main_v1, val_main_v0_apply]
  simp only [logistic_eq]
  blk_point [iblk, V, index t]

theorem reference_frame : Cert.quiescent_ReferenceGatesIdeal :=
  fun m g _ => kept_of_run rfl (Cert.ReferenceGatesIdeal.Value.run m g)

theorem algebraic : Cert.algebraic_KernelGatesIdeal_ReferenceGatesIdeal := fun m g m' g' _ hm =>
  ⟨value m, result_of_run (Value.run_blocks m g) (final m), result_of_run (Cert.ReferenceGatesIdeal.Value.run m' g') fun c =>
    (val_main_v11_eq ..).trans (congrArg₂ (val_main_v11 (F := Ideal)) (hm c).1 (hm c).2)⟩

end Cert.KernelGatesIdeal.Dense
-- ==== Proof.MMerge.lean ====
module

public import proofs.«01_k».proof.Defs
public import proofs.«01_k».proof.Proof.Gen.KernelMergeIdeal.Value
public import proofs.«01_k».proof.Proof.Gen.ReferenceMergeIdeal.Read
public import proofs.«01_k».proof.Proof.MBase

@[expose] public section

set_option maxRecDepth 16384

noncomputable section

namespace Cert.KernelMergeIdeal.Dense

open Cert.KernelMergeIdeal Cert.KernelMergeIdeal.Gen Cert.ReferenceMergeIdeal.Read Cert.Dense
open Idealize.ShloMosaic Idealize.ShloMosaic.TcCoe Idealize.SL.Sem

variable (m : (ℓ : Loc nD τ sig) → Buf (Elt Ideal) ℓ)

/-- The gates are read twice: the first branch's in the blocks of the result, the second's four blocks of columns further. -/
theorem index : ∀ t : Fin cfg0.N, win0_0.index t = ![(grid0.coords t 0).val, 0] ∧ win0_1.index t = win0_0.index t
    ∧ win0_2.index t = ![1, 0, (grid0.coords t 1).val] ∧ win0_3.index t = win0_2.index t
    ∧ win0_4.index t = ![(grid0.coords t 0).val, (grid0.coords t 1).val]
    ∧ win0_5.index t = ![(grid0.coords t 0).val, (grid0.coords t 1).val + 4] ∧ win0_6.index t = win0_4.index t :=
  (by decide +kernel : ∀ t : Fin grid0.N, _)

/-- The gated sum of the branches, as the reference has it. -/
abbrev value (c : Dev nD) : Buf (Elt Ideal) ((c : Thread nD τ).loc main_v0) :=
  val_main_v16 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The result array: each branch's product times its gate, added at every place. -/
theorem final (c : Dev nD) : (dats m 0 c).arrAt 6 cfg0.N = value m c := by
  refine (dats m 0 c).arrAt_eq_of_covers 6 _ (by decide +kernel) fun t hf y => ?_
  blk_simp
  rw [after0_6]
  frame_out
  pointwise [k0_pay1, val_main_v16_apply, val_main_v15_apply, val_main_v14_apply, val_main_v13_apply, val_main_v12_apply,
    val_main_v11, val_main_v10, val_main_v9_apply, val_main_v8, val_main_v7_apply, val_main_v6_apply, val_main_v5_apply,
    val_main_v4, val_main_v3, val_main_v2_apply, val_main_v1, val_main_v0_apply]
  blk_point [iblk, V, index t]

theorem reference_frame : Cert.quiescent_ReferenceMergeIdeal :=
  fun m g _ => kept_of_run rfl (Cert.ReferenceMergeIdeal.Value.run m g)

theorem algebraic : Cert.algebraic_KernelMergeIdeal_ReferenceMergeIdeal := fun m g m' g' _ hm =>
  ⟨value m, result_of_run (Value.run_blocks m g) (final m), result_of_run (Cert.ReferenceMergeIdeal.Value.run m' g') fun c =>
    (val_main_v16_eq ..).trans (by obtain ⟨h0, h1, h2, h3, h4⟩ := hm c; rw [h0, h1, h2, h3, h4])⟩

end Cert.KernelMergeIdeal.Dense
-- ==== Proof.MOut.lean ====
module

public import proofs.«01_k».proof.Defs
public import proofs.«01_k».proof.Proof.Gen.KernelOutIdeal.Value
public import proofs.«01_k».proof.Proof.Gen.ReferenceOutIdeal.Read
public import proofs.«01_k».proof.Proof.MBase

@[expose] public section

set_option maxRecDepth 16384

noncomputable section

namespace Cert.KernelOutIdeal.Dense

open Cert.KernelOutIdeal Cert.KernelOutIdeal.Gen Cert.ReferenceOutIdeal.Read Cert.Dense
open Idealize.ShloMosaic Idealize.ShloMosaic.TcCoe Idealize.SL.Sem

variable (m : (ℓ : Loc nD τ sig) → Buf (Elt Ideal) ℓ)

/-- The residual stream comes in the same blocks as the result. -/
theorem index : ∀ t : Fin cfg0.N, win0_0.index t = ![(grid0.coords t 0).val, 0] ∧ win0_1.index t = ![1, 0, (grid0.coords t 1).val]
    ∧ win0_2.index t = ![(grid0.coords t 0).val, (grid0.coords t 1).val] ∧ win0_3.index t = win0_2.index t :=
  (by decide +kernel : ∀ t : Fin grid0.N, _)

/-- The residual stream after the output projection, as the reference has it. -/
abbrev value (c : Dev nD) : Buf (Elt Ideal) ((c : Thread nD τ).loc main_v0) :=
  val_main_v5 (F := Ideal) (m ((c : Thread nD τ).loc main_arg0)) (m ((c : Thread nD τ).loc main_arg1))
    (m ((c : Thread nD τ).loc main_arg2))

/-- The result array: the residual stream and the product at every place. -/
theorem final (c : Dev nD) : (dats m 0 c).arrAt 3 cfg0.N = value m c := by
  refine (dats m 0 c).arrAt_eq_of_covers 3 _ (by decide +kernel) fun t hf y => ?_
  blk_simp
  rw [after0_3]
  frame_out
  pointwise [k0_pay1, val_main_v5_apply, val_main_v4_apply, val_main_v3_apply, val_main_v2, val_main_v1, val_main_v0_apply]
  blk_point [iblk, V, index t]

theorem reference_frame : Cert.quiescent_ReferenceOutIdeal :=
  fun m g _ => kept_of_run rfl (Cert.ReferenceOutIdeal.Value.run m g)

theorem algebraic : Cert.algebraic_KernelOutIdeal_ReferenceOutIdeal := fun m g m' g' _ hm =>
  ⟨value m, result_of_run (Value.run_blocks m g) (final m), result_of_run (Cert.ReferenceOutIdeal.Value.run m' g') fun c =>
    (val_main_v5_eq ..).trans (by obtain ⟨h0, h1, h2⟩ := hm c; rw [h0, h1, h2])⟩

end Cert.KernelOutIdeal.Dense
-- ==== Proof.MPle.lean ====
module

public import proofs.«01_k».proof.Defs
public import proofs.«01_k».proof.Proof.Gen.KernelPleIdeal.Value
public import proofs.«01_k».proof.Proof.Gen.ReferencePleIdeal.Read
public import proofs.«01_k».proof.Proof.MBase

@[expose] public section

set_option maxRecDepth 16384

noncomputable section

namespace Cert.KernelPleIdeal.Dense

open Cert.KernelPleIdeal Cert.KernelPleIdeal.Gen Cert.ReferencePleIdeal.Read Cert.Dense
open Idealize.ShloMosaic Idealize.ShloMosaic.TcCoe Idealize.SL.Sem

variable (m : (ℓ : Loc nD τ sig) → Buf (Elt Ideal) ℓ)

/-- The normed stream and the embedding are read in blocks of rows, their weights in blocks of columns. -/
theorem index : ∀ t : Fin cfg0.N, win0_0.index t = ![(grid0.coords t 0).val, 0] ∧ win0_1.index t = win0_0.index t
    ∧ win0_2.index t = ![1, 0, (grid0.coords t 1).val] ∧ win0_3.index t = win0_2.index t
    ∧ win0_4.index t = ![(grid0.coords t 0).val, (grid0.coords t 1).val] ∧ win0_5.index t = win0_4.index t :=
  (by decide +kernel : ∀ t : Fin grid0.N, _)

/-- The residual stream after the gated embedding, as the reference has it. -/
abbrev value (c : Dev nD) : Buf (Elt Ideal) ((c : Thread nD τ).loc main_v0) :=
  val_main_v17 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The result array: the residual stream and the gate times the embedding's product at every place. -/
theorem final (c : Dev nD) : (dats m 0 c).arrAt 5 cfg0.N = value m c := by
  refine (dats m 0 c).arrAt_eq_of_covers 5 _ (by decide +kernel) fun t hf y => ?_
  blk_simp
  rw [after0_5]
  frame_out
  pointwise [k0_pay1, val_main_v17_apply, val_main_v16_apply, val_main_v15_apply, val_main_v14_apply, val_main_cst_0_apply,
    val_main_v13_apply, val_main_v12_apply, val_main_cst_apply, val_main_v11_apply, val_main_v10_apply, val_main_v9_apply,
    val_main_v8_apply, val_main_v7, val_main_v6, val_main_v5_apply, val_main_v4_apply, val_main_v3_apply, val_main_v2,
    val_main_v1, val_main_v0_apply]
  simp only [logistic_eq]
  blk_point [iblk, V, index t]

theorem reference_frame : Cert.quiescent_ReferencePleIdeal :=
  fun m g _ => kept_of_run rfl (Cert.ReferencePleIdeal.Value.run m g)

theorem algebraic : Cert.algebraic_KernelPleIdeal_ReferencePleIdeal := fun m g m' g' _ hm =>
  ⟨value m, result_of_run (Value.run_blocks m g) (final m), result_of_run (Cert.ReferencePleIdeal.Value.run m' g') fun c =>
    (val_main_v17_eq ..).trans (by obtain ⟨h0, h1, h2, h3, h4⟩ := hm c; rw [h0, h1, h2, h3, h4])⟩

end Cert.KernelPleIdeal.Dense
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Pre_finite
public import proofs.«01_k».proof.Proof.Gen.ReferenceIdeal.Run
public import Idealize.ShloMosaic.Lib.Quiescent
public import Idealize.ShloMosaic.Lib.Claim
public import proofs.«01_k».proof.Proof.ILaunch
public import proofs.«01_k».proof.Proof.KFrame
public import proofs.«01_k».proof.Proof.VJoin
public import proofs.«01_k».proof.Proof.VPre
public import proofs.«01_k».proof.Proof.Gen.KernelFfn.Frame
public import proofs.«01_k».proof.Proof.MFfn
public import proofs.«01_k».proof.Proof.Gen.KernelDown.Frame
public import proofs.«01_k».proof.Proof.MDown
public import proofs.«01_k».proof.Proof.Gen.KernelGates.Frame
public import proofs.«01_k».proof.Proof.MGates
public import proofs.«01_k».proof.Proof.Gen.KernelMerge.Frame
public import proofs.«01_k».proof.Proof.MMerge
public import proofs.«01_k».proof.Proof.Gen.KernelOut.Frame
public import proofs.«01_k».proof.Proof.MOut
public import proofs.«01_k».proof.Proof.Gen.KernelPle.Frame
public import proofs.«01_k».proof.Proof.MPle
public import Idealize.ShloMosaic.Adequacy
public import Idealize.ShloMosaic.Init

@[expose] public section

set_option maxRecDepth 16384

noncomputable section

namespace Cert.Proof

open Idealize.ShloMosaic Idealize.SL.Sem Cert.Kernel

/-- Each named constant is the value its table gives it. -/
theorem preserved : Cert.preserves_Kernel_KernelIdeal := by
  unfold Cert.preserves_Kernel_KernelIdeal
  refine ⟨?_, ?_, ?_⟩ <;> exact IdealRules.named_const.statement _ _ _ _ _ rfl

/-- The reference leaves its arguments and its counters. -/
theorem reference_frame : Cert.quiescent_ReferenceIdeal := by
  intro m g _
  refine (θ_run _ _ _).mono (fun r h => ⟨fun c => (h c).2, ?_⟩) (Cert.ReferenceIdeal.Value.run m g)
  exact sem_eq_zero_of_no_sems rfl _

/-- From memories that agree on finite arguments the kernel and the reference end with the same result. -/
theorem algebraic : Cert.algebraic_KernelIdeal_ReferenceIdeal_pre_finite := by
  intro m g m' g' hpre hagree
  refine ⟨fun c => Cert.KernelIdeal.Gen.outA m c, Cert.Join.kernel_run m g, ?_⟩
  refine (θ_run _ _ _).mono (fun r h c => ⟨(h c).1.trans ?_, (h c).2⟩) (Cert.ReferenceIdeal.Value.run m' g')
  obtain ⟨a0, a1, a2, a3, a4, a5⟩ := hagree c
  obtain ⟨p0, p1, p2, p3⟩ := Cert.Pre_finite.pre_parts _ _ _ _ _ _ (hpre c)
  choose Q hQ using p0
  choose G hG using p1
  obtain ⟨t, ht⟩ := Cert.KernelIdeal.Gen.shift_real (Cert.KernelIdeal.Gen.argGq m c) (Cert.KernelIdeal.Gen.argGk m c) p2 p3
  have c0 : c = 0 := Subsingleton.elim _ _
  have eq0 := Cert.KernelIdeal.Gen.qkA_eq m c
  have ev := Cert.KernelIdeal.Gen.vA_eq m c
  have key := Cert.Join.out_eq m (StableHlo.launchContents m' c) Q G c t (fun i d => (congrFun eq0 _).trans (hQ i d)) hG ht
    (a0.trans eq0.symm) a2 (a5.trans (by rw [c0]; rfl))
  funext x
  rw [eq_ix2 x]
  have hx : (x 1).val < 2048 := (x 1).isLt
  have hj : (x 1).val = 128 * ((x 1).val / 128) + (x 1).val % 128 := (Nat.div_add_mod _ _).symm
  refine (Cert.ReferenceIdeal.Value.result_apply _ _ ⟨(x 1).val / 128, by omega⟩ (x 0) ⟨(x 1).val % 128, by omega⟩ (x 1) hj).trans ?_
  refine Eq.trans ?_ (Cert.KernelIdeal.Gen.outA_apply m c (x 0) ⟨(x 1).val / 128, by omega⟩ ⟨(x 1).val % 128, by omega⟩ (x 1) hj).symm
  rw [key ⟨(x 1).val / 128, by omega⟩ (x 0) ⟨(x 1).val % 128, by omega⟩]
  refine Finset.sum_congr rfl fun k _ => congrArg (· * _) ?_
  have e1 : (⟨128 * ((x 1).val / 128) + (x 1).val % 128, by omega⟩ : Fin 2048) = x 1 := Fin.ext hj.symm
  refine (congrFun (a1.trans ev.symm) _).trans (congrArg (fun y => Cert.KernelIdeal.Gen.vA m c (ix2 k y)) e1.symm)

/-- Everything claimed. -/
theorem claim : Cert.Claim := ⟨
  Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelDown.Gen.facts, Cert.KernelDownIdeal.Gen.facts, Cert.ReferenceDownIdeal.Gen.facts,
  Cert.KernelGates.Gen.facts, Cert.KernelGatesIdeal.Gen.facts, Cert.ReferenceGatesIdeal.Gen.facts,
  Cert.KernelMerge.Gen.facts, Cert.KernelMergeIdeal.Gen.facts, Cert.ReferenceMergeIdeal.Gen.facts,
  Cert.KernelOut.Gen.facts, Cert.KernelOutIdeal.Gen.facts, Cert.ReferenceOutIdeal.Gen.facts,
  Cert.KernelPle.Gen.facts, Cert.KernelPleIdeal.Gen.facts, Cert.ReferencePleIdeal.Gen.facts,
  Cert.Pre_finite.Gen.facts,
  Cert.Printed.frame,
  fun m g _ => Cert.KernelIdeal.Gen.frame m g (Cert.KernelIdeal.Gen.ok_m m),
  fun m g _ => Cert.KernelIdeal.Gen.frame m g (Cert.KernelIdeal.Gen.ok_m m),
  reference_frame, fun m g _ => reference_frame m g trivial,
  fun m g _ => Cert.KernelFfn.Gen.frame m g, fun m g _ => Cert.KernelFfnIdeal.Gen.frame m g, Cert.KernelFfnIdeal.Dense.reference_frame,
  fun m g _ => Cert.KernelDown.Gen.frame m g, fun m g _ => Cert.KernelDownIdeal.Gen.frame m g, Cert.KernelDownIdeal.Dense.reference_frame,
  fun m g _ => Cert.KernelGates.Gen.frame m g, fun m g _ => Cert.KernelGatesIdeal.Gen.frame m g, Cert.KernelGatesIdeal.Dense.reference_frame,
  fun m g _ => Cert.KernelMerge.Gen.frame m g, fun m g _ => Cert.KernelMergeIdeal.Gen.frame m g, Cert.KernelMergeIdeal.Dense.reference_frame,
  fun m g _ => Cert.KernelOut.Gen.frame m g, fun m g _ => Cert.KernelOutIdeal.Gen.frame m g, Cert.KernelOutIdeal.Dense.reference_frame,
  fun m g _ => Cert.KernelPle.Gen.frame m g, fun m g _ => Cert.KernelPleIdeal.Gen.frame m g, Cert.KernelPleIdeal.Dense.reference_frame,
  preserved, algebraic,
  trivial, Cert.KernelFfnIdeal.Dense.algebraic,
  trivial, Cert.KernelDownIdeal.Dense.algebraic,
  trivial, Cert.KernelGatesIdeal.Dense.algebraic,
  trivial, Cert.KernelMergeIdeal.Dense.algebraic,
  trivial, Cert.KernelOutIdeal.Dense.algebraic,
  trivial, Cert.KernelPleIdeal.Dense.algebraic⟩

end Cert.Proof

end
